-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x8192 : Shape := ⟨3, ![4, 3, 8192]⟩
abbrev S4x3x1024 : Shape := ⟨3, ![4, 3, 1024]⟩
abbrev S4x128x8192 : Shape := ⟨3, ![4, 128, 8192]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x8192x5 : Shape := ⟨3, ![4, 8192, 5]⟩
abbrev S4x8192x8 : Shape := ⟨3, ![4, 8192, 8]⟩
abbrev S4x1024 : Shape := ⟨2, ![4, 1024]⟩
abbrev S4x1x1024 : Shape := ⟨3, ![4, 1, 1024]⟩
abbrev S4x4x1024 : Shape := ⟨3, ![4, 4, 1024]⟩
abbrev S4x8x1024 : Shape := ⟨3, ![4, 8, 1024]⟩
abbrev S4x8x32x128 : Shape := ⟨4, ![4, 8, 32, 128]⟩
abbrev S1x8192x8 : Shape := ⟨3, ![1, 8192, 8]⟩
abbrev S1x8x128 : Shape := ⟨3, ![1, 8, 128]⟩
abbrev S1x8192x1 : Shape := ⟨3, ![1, 8192, 1]⟩
abbrev S1x1x32x128 : Shape := ⟨4, ![1, 1, 32, 128]⟩
abbrev S8192x8 : Shape := ⟨2, ![8192, 8]⟩
abbrev S8x128 : Shape := ⟨2, ![8, 128]⟩
abbrev S8192x1 : Shape := ⟨2, ![8192, 1]⟩
abbrev S8192x128 : Shape := ⟨2, ![8192, 128]⟩
abbrev S1x128 : Shape := ⟨2, ![1, 128]⟩
abbrev S32x256x128 : Shape := ⟨3, ![32, 256, 128]⟩
abbrev S1x256x128 : Shape := ⟨3, ![1, 256, 128]⟩
abbrev S2x256x128 : Shape := ⟨3, ![2, 256, 128]⟩
abbrev S4x256x128 : Shape := ⟨3, ![4, 256, 128]⟩
abbrev S8x256x128 : Shape := ⟨3, ![8, 256, 128]⟩
abbrev S16x256x128 : Shape := ⟨3, ![16, 256, 128]⟩
abbrev S32x128x128 : Shape := ⟨3, ![32, 128, 128]⟩
abbrev S1x128x128 : Shape := ⟨3, ![1, 128, 128]⟩
abbrev S16x128x128 : Shape := ⟨3, ![16, 128, 128]⟩
abbrev S8x128x128 : Shape := ⟨3, ![8, 128, 128]⟩
abbrev S4x128x128 : Shape := ⟨3, ![4, 128, 128]⟩
abbrev S2x128x128 : Shape := ⟨3, ![2, 128, 128]⟩
abbrev S32x64x128 : Shape := ⟨3, ![32, 64, 128]⟩
abbrev S1x64x128 : Shape := ⟨3, ![1, 64, 128]⟩
abbrev S16x64x128 : Shape := ⟨3, ![16, 64, 128]⟩
abbrev S8x64x128 : Shape := ⟨3, ![8, 64, 128]⟩
abbrev S4x64x128 : Shape := ⟨3, ![4, 64, 128]⟩
abbrev S2x64x128 : Shape := ⟨3, ![2, 64, 128]⟩
abbrev S32x32x128 : Shape := ⟨3, ![32, 32, 128]⟩
abbrev S1x32x128 : Shape := ⟨3, ![1, 32, 128]⟩
abbrev S16x32x128 : Shape := ⟨3, ![16, 32, 128]⟩
abbrev S8x32x128 : Shape := ⟨3, ![8, 32, 128]⟩
abbrev S4x32x128 : Shape := ⟨3, ![4, 32, 128]⟩
abbrev S2x32x128 : Shape := ⟨3, ![2, 32, 128]⟩
abbrev S32x16x128 : Shape := ⟨3, ![32, 16, 128]⟩
abbrev S1x16x128 : Shape := ⟨3, ![1, 16, 128]⟩
abbrev S16x16x128 : Shape := ⟨3, ![16, 16, 128]⟩
abbrev S8x16x128 : Shape := ⟨3, ![8, 16, 128]⟩
abbrev S4x16x128 : Shape := ⟨3, ![4, 16, 128]⟩
abbrev S2x16x128 : Shape := ⟨3, ![2, 16, 128]⟩
abbrev S32x8x128 : Shape := ⟨3, ![32, 8, 128]⟩
abbrev S16x8x128 : Shape := ⟨3, ![16, 8, 128]⟩
abbrev S8x8x128 : Shape := ⟨3, ![8, 8, 128]⟩
abbrev S4x8x128 : Shape := ⟨3, ![4, 8, 128]⟩
abbrev S2x8x128 : Shape := ⟨3, ![2, 8, 128]⟩
abbrev S32x4x128 : Shape := ⟨3, ![32, 4, 128]⟩
abbrev S1x4x128 : Shape := ⟨3, ![1, 4, 128]⟩
abbrev S16x4x128 : Shape := ⟨3, ![16, 4, 128]⟩
abbrev S8x4x128 : Shape := ⟨3, ![8, 4, 128]⟩
abbrev S4x4x128 : Shape := ⟨3, ![4, 4, 128]⟩
abbrev S2x4x128 : Shape := ⟨3, ![2, 4, 128]⟩
abbrev S32x2x128 : Shape := ⟨3, ![32, 2, 128]⟩
abbrev S1x2x128 : Shape := ⟨3, ![1, 2, 128]⟩
abbrev S16x2x128 : Shape := ⟨3, ![16, 2, 128]⟩
abbrev S8x2x128 : Shape := ⟨3, ![8, 2, 128]⟩
abbrev S4x2x128 : Shape := ⟨3, ![4, 2, 128]⟩
abbrev S2x2x128 : Shape := ⟨3, ![2, 2, 128]⟩
abbrev S32x1x128 : Shape := ⟨3, ![32, 1, 128]⟩
abbrev S1x1x128 : Shape := ⟨3, ![1, 1, 128]⟩
abbrev S16x1x128 : Shape := ⟨3, ![16, 1, 128]⟩
abbrev S8x1x128 : Shape := ⟨3, ![8, 1, 128]⟩
abbrev S4x1x128 : Shape := ⟨3, ![4, 1, 128]⟩
abbrev S2x1x128 : Shape := ⟨3, ![2, 1, 128]⟩
abbrev S32x128 : Shape := ⟨2, ![32, 128]⟩
abbrev S4x8x128x32 : Shape := ⟨4, ![4, 8, 128, 32]⟩
abbrev S131072 : Shape := ⟨1, ![131072]⟩
abbrev S4x8192x128 : Shape := ⟨3, ![4, 8192, 128]⟩
abbrev S32768x128 : Shape := ⟨2, ![32768, 128]⟩
abbrev S98304 : Shape := ⟨1, ![98304]⟩
abbrev S12288 : Shape := ⟨1, ![12288]⟩
abbrev S131072x128 : Shape := ⟨2, ![131072, 128]⟩
abbrev S393216 : Shape := ⟨1, ![393216]⟩
abbrev S4096 : Shape := ⟨1, ![4096]⟩
abbrev S24576 : Shape := ⟨1, ![24576]⟩
abbrev S3072 : Shape := ⟨1, ![3072]⟩
abbrev S128x128 : Shape := ⟨2, ![128, 128]⟩
abbrev S16 : Shape := ⟨1, ![16]⟩
abbrev S128 : Shape := ⟨1, ![128]⟩
abbrev S4x1024x32x128 : Shape := ⟨4, ![4, 1024, 32, 128]⟩
abbrev S4x128x1024x32 : Shape := ⟨4, ![4, 128, 1024, 32]⟩
abbrev S3x4x1024x32 : Shape := ⟨4, ![3, 4, 1024, 32]⟩
abbrev S4x3x1024x32 : Shape := ⟨4, ![4, 3, 1024, 32]⟩
abbrev S4x131x1024x32 : Shape := ⟨4, ![4, 131, 1024, 32]⟩

abbrev nBuf : Table → Nat
  | .hbm => 32
  | .local .tc .vmem => 8
  | .local .scVector .vmem => 5
  | _ => 0

abbrev bufTy : (tb : Table) → Fin (nBuf tb) → BufTy
  | .hbm, ⟨0, _⟩ => ⟨S4x3x8192, .f32⟩
  | .hbm, ⟨1, _⟩ => ⟨S4x3x1024, .f32⟩
  | .hbm, ⟨2, _⟩ => ⟨S4x128x8192, .f32⟩
  | .hbm, ⟨3, _⟩ => ⟨S4x8192x3, .f32⟩
  | .hbm, ⟨4, _⟩ => ⟨S4x3x8192, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x5, .f32⟩
  | .hbm, ⟨10, _⟩ => ⟨S4x8192x8, .f32⟩
  | .hbm, ⟨11, _⟩ => ⟨S4x3x1024, .f32⟩
  | .hbm, ⟨12, _⟩ => ⟨S_, .f32⟩
  | .hbm, ⟨13, _⟩ => ⟨S4x1024, .f32⟩
  | .hbm, ⟨14, _⟩ => ⟨S4x1x1024, .f32⟩
  | .hbm, ⟨15, _⟩ => ⟨S_, .f32⟩
  | .hbm, ⟨16, _⟩ => ⟨S4x4x1024, .f32⟩
  | .hbm, ⟨17, _⟩ => ⟨S4x8x1024, .f32⟩
  | .hbm, ⟨18, _⟩ => ⟨S4x8x32x128, .i32⟩
  | .hbm, ⟨19, _⟩ => ⟨S4x8x128x32, .i32⟩
  | .hbm, ⟨20, _⟩ => ⟨S131072, .i32⟩
  | .hbm, ⟨21, _⟩ => ⟨S4x8192x128, .f32⟩
  | .hbm, ⟨22, _⟩ => ⟨S32768x128, .f32⟩
  | .hbm, ⟨23, _⟩ => ⟨S98304, .f32⟩
  | .hbm, ⟨24, _⟩ => ⟨S12288, .f32⟩
  | .hbm, ⟨25, _⟩ => ⟨S131072x128, .f32⟩
  | .hbm, ⟨26, _⟩ => ⟨S393216, .f32⟩
  | .hbm, ⟨27, _⟩ => ⟨S4x1024x32x128, .f32⟩
  | .hbm, ⟨28, _⟩ => ⟨S4x128x1024x32, .f32⟩
  | .hbm, ⟨29, _⟩ => ⟨S3x4x1024x32, .f32⟩
  | .hbm, ⟨30, _⟩ => ⟨S4x3x1024x32, .f32⟩
  | .hbm, ⟨31, _⟩ => ⟨S4x131x1024x32, .f32⟩
  | .local .tc .vmem, ⟨0, _⟩ => ⟨S1x8192x8, .f32⟩
  | .local .tc .vmem, ⟨1, _⟩ => ⟨S1x8192x8, .f32⟩
  | .local .tc .vmem, ⟨2, _⟩ => ⟨S1x8x128, .f32⟩
  | .local .tc .vmem, ⟨3, _⟩ => ⟨S1x8x128, .f32⟩
  | .local .tc .vmem, ⟨4, _⟩ => ⟨S1x8192x1, .f32⟩
  | .local .tc .vmem, ⟨5, _⟩ => ⟨S1x8192x1, .f32⟩
  | .local .tc .vmem, ⟨6, _⟩ => ⟨S1x1x32x128, .i32⟩
  | .local .tc .vmem, ⟨7, _⟩ => ⟨S1x1x32x128, .i32⟩
  | .local .scVector .vmem, ⟨0, _⟩ => ⟨S4096, .i32⟩
  | .local .scVector .vmem, ⟨1, _⟩ => ⟨S24576, .f32⟩
  | .local .scVector .vmem, ⟨2, _⟩ => ⟨S3072, .f32⟩
  | .local .scVector .vmem, ⟨3, _⟩ => ⟨S128x128, .f32⟩
  | .local .scVector .vmem, ⟨4, _⟩ => ⟨S12288, .f32⟩
  | _, _ => ⟨S4x3x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v15_scv : Ref sig .scVector := ⟨.hbm, 22, rfl⟩
abbrev main_v16_scv : Ref sig .scVector := ⟨.hbm, 23, rfl⟩
abbrev main_v17_scv : Ref sig .scVector := ⟨.hbm, 24, rfl⟩
abbrev main_v13_scv : Ref sig .scVector := ⟨.hbm, 20, rfl⟩
abbrev main_v18_0_scv : Ref sig .scVector := ⟨.hbm, 25, rfl⟩
abbrev main_v18_1_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v19 : BitVec 32 := Scalar.muli v1 c4096_i32
  ![v19.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v20 : BitVec 32 := Scalar.muli v18 c3_i32
  let c8192_i32 : BitVec 32 := 8192#32
  let v21 : BitVec 32 := Scalar.muli v20 c8192_i32
  ![v21.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_4 : BitVec 32 := 3#32
  let v22 : BitVec 32 := Scalar.muli v18 c3_i32_4
  let c1024_i32 : BitVec 32 := 1024#32
  let v23 : BitVec 32 := Scalar.muli v22 c1024_i32
  ![v23.toNat]
@[reducible] def k1_t1_loop : Scf.Loop 32 :=
  let c0_i32_14 : BitVec 32 := 0#32
  let c32_i32 : BitVec 32 := 32#32
  let v38 : BitVec 32 := Scalar.addi c0_i32_14 c32_i32
  let c1_i32_15 : BitVec 32 := 1#32
  ⟨c0_i32_14, v38, c1_i32_15⟩
def k1_off4 (k1_t1 : Fin k1_t1_loop.trips) : Fin 1 → Nat :=
  let c0_i32_14 : BitVec 32 := 0#32
  let c1_i32_15 : BitVec 32 := 1#32
  let arg14 : BitVec 32 := Scf.iv c0_i32_14 c1_i32_15 k1_t1
  let c128_i32_22 : BitVec 32 := 128#32
  let v45 : BitVec 32 := Scalar.muli arg14 c128_i32_22
  ![v45.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_5 : BitVec 32 := 4096#32
  let v24 : BitVec 32 := Scalar.muli v1 c4096_i32_5
  let c0_i32_14 : BitVec 32 := 0#32
  let c1_i32_15 : BitVec 32 := 1#32
  let arg14 : BitVec 32 := Scf.iv c0_i32_14 c1_i32_15 k1_t1
  let c128_i32_27 : BitVec 32 := 128#32
  let v50 : BitVec 32 := Scalar.muli arg14 c128_i32_27
  let v51 : BitVec 32 := Scalar.addi v24 v50
  let c0_i32_29_r3 : BitVec 32 := 0#32
  ![v51.toNat, 0]
@[reducible] def k1_t2_loop : Scf.Loop 32 :=
  let c0_i32_18 : BitVec 32 := 0#32
  let c256_i32 : BitVec 32 := 256#32
  let v40 : BitVec 32 := Scalar.addi c0_i32_18 c256_i32
  let c1_i32_19 : BitVec 32 := 1#32
  ⟨c0_i32_18, v40, c1_i32_19⟩
def k1_off6 (k1_t2 : Fin k1_t2_loop.trips) : Fin 1 → Nat :=
  let c0_i32_18 : BitVec 32 := 0#32
  let c1_i32_19 : BitVec 32 := 1#32
  let arg14 : BitVec 32 := Scf.iv c0_i32_18 c1_i32_19 k1_t2
  let c16_i32 : BitVec 32 := 16#32
  let v45 : BitVec 32 := Scalar.muli arg14 c16_i32
  let v46 : Index := Scalar.indexCast v45
  ![v46.toNat]

def k1_chk1 (v80 : IVec S16 32) : Prop :=
  (∀ a x, ((![v80] : Fin 1 → IVec S16 32) a x).toNat < S24576.size a)
theorem k1_idx1_inb : ∀ (v80 : IVec S16 32) (k1_hw1 : k1_chk1 v80), ∀ a x, ((![v80] : Fin 1 → IVec S16 32) a x).toNat < S24576.size a := fun v80 k1_hw1 => k1_hw1

def k1_chk2 (v83 : IVec S16 32) : Prop :=
  (∀ a x, ((![v83] : Fin 1 → IVec S16 32) a x).toNat < S3072.size a)
theorem k1_idx2_inb : ∀ (v83 : IVec S16 32) (k1_hw2 : k1_chk2 v83), ∀ a x, ((![v83] : Fin 1 → IVec S16 32) a x).toNat < S3072.size a := fun v83 k1_hw2 => k1_hw2

def k1_chk3 (v87 : IVec S16 32) : Prop :=
  (∀ a x, ((![v87] : Fin 1 → IVec S16 32) a x).toNat < S12288.size a)
theorem k1_idx3_inb : ∀ (v87 : IVec S16 32) (k1_hw3 : k1_chk3 v87), ∀ a x, ((![v87] : Fin 1 → IVec S16 32) a x).toNat < S12288.size a := fun v87 k1_hw3 => k1_hw3

def k1_chk4 (v89 : IVec S16 32) : Prop :=
  (∀ a x, ((![v89] : Fin 1 → IVec S16 32) a x).toNat < S24576.size a)
theorem k1_idx4_inb : ∀ (v89 : IVec S16 32) (k1_hw4 : k1_chk4 v89), ∀ a x, ((![v89] : Fin 1 → IVec S16 32) a x).toNat < S24576.size a := fun v89 k1_hw4 => k1_hw4

def k1_chk5 (v92 : IVec S16 32) : Prop :=
  (∀ a x, ((![v92] : Fin 1 → IVec S16 32) a x).toNat < S3072.size a)
theorem k1_idx5_inb : ∀ (v92 : IVec S16 32) (k1_hw5 : k1_chk5 v92), ∀ a x, ((![v92] : Fin 1 → IVec S16 32) a x).toNat < S3072.size a := fun v92 k1_hw5 => k1_hw5

def k1_chk6 (v96 : IVec S16 32) : Prop :=
  (∀ a x, ((![v96] : Fin 1 → IVec S16 32) a x).toNat < S12288.size a)
theorem k1_idx6_inb : ∀ (v96 : IVec S16 32) (k1_hw6 : k1_chk6 v96), ∀ a x, ((![v96] : Fin 1 → IVec S16 32) a x).toNat < S12288.size a := fun v96 k1_hw6 => k1_hw6

def k1_chk7 (v98 : IVec S16 32) : Prop :=
  (∀ a x, ((![v98] : Fin 1 → IVec S16 32) a x).toNat < S24576.size a)
theorem k1_idx7_inb : ∀ (v98 : IVec S16 32) (k1_hw7 : k1_chk7 v98), ∀ a x, ((![v98] : Fin 1 → IVec S16 32) a x).toNat < S24576.size a := fun v98 k1_hw7 => k1_hw7

def k1_chk8 (v101 : IVec S16 32) : Prop :=
  (∀ a x, ((![v101] : Fin 1 → IVec S16 32) a x).toNat < S3072.size a)
theorem k1_idx8_inb : ∀ (v101 : IVec S16 32) (k1_hw8 : k1_chk8 v101), ∀ a x, ((![v101] : Fin 1 → IVec S16 32) a x).toNat < S3072.size a := fun v101 k1_hw8 => k1_hw8

def k1_chk9 (v105 : IVec S16 32) : Prop :=
  (∀ a x, ((![v105] : Fin 1 → IVec S16 32) a x).toNat < S12288.size a)
theorem k1_idx9_inb : ∀ (v105 : IVec S16 32) (k1_hw9 : k1_chk9 v105), ∀ a x, ((![v105] : Fin 1 → IVec S16 32) a x).toNat < S12288.size a := fun v105 k1_hw9 => k1_hw9
def k1_off7 (i : grid1.Coords) (c0_i32_21 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_5 : BitVec 32 := 4096#32
  let v24 : BitVec 32 := Scalar.muli v1 c4096_i32_5
  let v42 : BitVec 32 := Scalar.addi c0_i32_21 v24
  ![v42.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x3x8192 : Shape := ⟨3, ![4, 3, 8192]⟩
abbrev S4x3x1024 : Shape := ⟨3, ![4, 3, 1024]⟩
abbrev S4x128x8192 : Shape := ⟨3, ![4, 128, 8192]⟩
abbrev S_ : Shape := ⟨0, ![]⟩
abbrev S4x8192 : Shape := ⟨2, ![4, 8192]⟩
abbrev S4x8192x1 : Shape := ⟨3, ![4, 8192, 1]⟩
abbrev S4x1024 : Shape := ⟨2, ![4, 1024]⟩
abbrev S4x1x1024 : Shape := ⟨3, ![4, 1, 1024]⟩
abbrev S4x8192x1024 : Shape := ⟨3, ![4, 8192, 1024]⟩
abbrev S4x1024x8192 : Shape := ⟨3, ![4, 1024, 8192]⟩
abbrev S4x1024x32 : Shape := ⟨3, ![4, 1024, 32]⟩
abbrev S4x3x1x8192 : Shape := ⟨4, ![4, 3, 1, 8192]⟩
abbrev S4x1x1024x32 : Shape := ⟨4, ![4, 1, 1024, 32]⟩
abbrev S4x1024x32x1 : Shape := ⟨4, ![4, 1024, 32, 1]⟩
abbrev S1 : Shape := ⟨1, ![1]⟩
abbrev S1x1x1x1 : Shape := ⟨4, ![1, 1, 1, 1]⟩
abbrev S4x3x1024x32 : Shape := ⟨4, ![4, 3, 1024, 32]⟩
abbrev S4x3x1024x1 : Shape := ⟨4, ![4, 3, 1024, 1]⟩
abbrev S4x128x1x8192 : Shape := ⟨4, ![4, 128, 1, 8192]⟩
abbrev S4x128x1024x32 : Shape := ⟨4, ![4, 128, 1024, 32]⟩
abbrev S4x131x1024x32 : Shape := ⟨4, ![4, 131, 1024, 32]⟩

abbrev nBuf : Space → Nat
  | .hbm => 92
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x1024, .f32⟩
  | .hbm, ⟨2, _⟩ => ⟨S4x128x8192, .f32⟩
  | .hbm, ⟨3, _⟩ => ⟨S4x3x8192, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S4x3x1024, .f32⟩
  | .hbm, ⟨8, _⟩ => ⟨S_, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .i1⟩
  | .hbm, ⟨20, _⟩ => ⟨S_, .f32⟩
  | .hbm, ⟨21, _⟩ => ⟨S_, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x1024x8192, .f32⟩
  | .hbm, ⟨33, _⟩ => ⟨S4x1024x8192, .f32⟩
  | .hbm, ⟨34, _⟩ => ⟨S4x1024x32, .f32⟩
  | .hbm, ⟨35, _⟩ => ⟨S4x1024x32, .i32⟩
  | .hbm, ⟨36, _⟩ => ⟨S4x3x1x8192, .f32⟩
  | .hbm, ⟨37, _⟩ => ⟨S4x1x1024x32, .i32⟩
  | .hbm, ⟨38, _⟩ => ⟨S_, .i32⟩
  | .hbm, ⟨39, _⟩ => ⟨S4x1x1024x32, .i32⟩
  | .hbm, ⟨40, _⟩ => ⟨S4x1x1024x32, .i1⟩
  | .hbm, ⟨41, _⟩ => ⟨S_, .i32⟩
  | .hbm, ⟨42, _⟩ => ⟨S4x1x1024x32, .i32⟩
  | .hbm, ⟨43, _⟩ => ⟨S4x1x1024x32, .i32⟩
  | .hbm, ⟨44, _⟩ => ⟨S4x1x1024x32, .i32⟩
  | .hbm, ⟨45, _⟩ => ⟨S4x1024x32x1, .i32⟩
  | .hbm, ⟨46, _⟩ => ⟨S4x3x8192, .f32⟩
  | .hbm, ⟨47, _⟩ => ⟨S1, .i32⟩
  | .hbm, ⟨48, _⟩ => ⟨S_, .i32⟩
  | .hbm, ⟨49, _⟩ => ⟨S4x1024x32x1, .i32⟩
  | .hbm, ⟨50, _⟩ => ⟨S4x1024x32x1, .i1⟩
  | .hbm, ⟨51, _⟩ => ⟨S1x1x1x1, .i32⟩
  | .hbm, ⟨52, _⟩ => ⟨S4x1024x32x1, .i32⟩
  | .hbm, ⟨53, _⟩ => ⟨S4x1024x32x1, .i1⟩
  | .hbm, ⟨54, _⟩ => ⟨S4x1024x32x1, .i1⟩
  | .hbm, ⟨55, _⟩ => ⟨S_, .i1⟩
  | .hbm, ⟨56, _⟩ => ⟨S4x1024x32, .i1⟩
  | .hbm, ⟨57, _⟩ => ⟨S4x3x1024x32, .f32⟩
  | .hbm, ⟨58, _⟩ => ⟨S4x3x1024x32, .i1⟩
  | .hbm, ⟨59, _⟩ => ⟨S_, .f32⟩
  | .hbm, ⟨60, _⟩ => ⟨S4x3x1024x32, .f32⟩
  | .hbm, ⟨61, _⟩ => ⟨S4x3x1024x32, .f32⟩
  | .hbm, ⟨62, _⟩ => ⟨S4x3x1024x1, .f32⟩
  | .hbm, ⟨63, _⟩ => ⟨S4x3x1024x32, .f32⟩
  | .hbm, ⟨64, _⟩ => ⟨S4x3x1024x32, .f32⟩
  | .hbm, ⟨65, _⟩ => ⟨S4x128x1x8192, .f32⟩
  | .hbm, ⟨66, _⟩ => ⟨S4x1x1024x32, .i32⟩
  | .hbm, ⟨67, _⟩ => ⟨S_, .i32⟩
  | .hbm, ⟨68, _⟩ => ⟨S4x1x1024x32, .i32⟩
  | .hbm, ⟨69, _⟩ => ⟨S4x1x1024x32, .i1⟩
  | .hbm, ⟨70, _⟩ => ⟨S_, .i32⟩
  | .hbm, ⟨71, _⟩ => ⟨S4x1x1024x32, .i32⟩
  | .hbm, ⟨72, _⟩ => ⟨S4x1x1024x32, .i32⟩
  | .hbm, ⟨73, _⟩ => ⟨S4x1x1024x32, .i32⟩
  | .hbm, ⟨74, _⟩ => ⟨S4x1024x32x1, .i32⟩
  | .hbm, ⟨75, _⟩ => ⟨S4x128x8192, .f32⟩
  | .hbm, ⟨76, _⟩ => ⟨S1, .i32⟩
  | .hbm, ⟨77, _⟩ => ⟨S_, .i32⟩
  | .hbm, ⟨78, _⟩ => ⟨S4x1024x32x1, .i32⟩
  | .hbm, ⟨79, _⟩ => ⟨S4x1024x32x1, .i1⟩
  | .hbm, ⟨80, _⟩ => ⟨S1x1x1x1, .i32⟩
  | .hbm, ⟨81, _⟩ => ⟨S4x1024x32x1, .i32⟩
  | .hbm, ⟨82, _⟩ => ⟨S4x1024x32x1, .i1⟩
  | .hbm, ⟨83, _⟩ => ⟨S4x1024x32x1, .i1⟩
  | .hbm, ⟨84, _⟩ => ⟨S_, .i1⟩
  | .hbm, ⟨85, _⟩ => ⟨S4x1024x32, .i1⟩
  | .hbm, ⟨86, _⟩ => ⟨S4x128x1024x32, .f32⟩
  | .hbm, ⟨87, _⟩ => ⟨S4x128x1024x32, .i1⟩
  | .hbm, ⟨88, _⟩ => ⟨S_, .f32⟩
  | .hbm, ⟨89, _⟩ => ⟨S4x128x1024x32, .f32⟩
  | .hbm, ⟨90, _⟩ => ⟨S4x128x1024x32, .f32⟩
  | .hbm, ⟨91, _⟩ => ⟨S4x131x1024x32, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst_3 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_values : Ref sig .tc := ⟨.hbm, 34, rfl⟩
abbrev main_indices : Ref sig .tc := ⟨.hbm, 35, rfl⟩
abbrev main_v18 : Ref sig .tc := ⟨.hbm, 36, rfl⟩
abbrev main_v19 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_c_1 : Ref sig .tc := ⟨.hbm, 47, rfl⟩
abbrev main_call2_c_2 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_c_3 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_cst : Ref sig .tc := ⟨.hbm, 59, rfl⟩
abbrev main_call2_v16 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_c_1 : Ref sig .tc := ⟨.hbm, 76, rfl⟩
abbrev main_call3_c_2 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_c_3 : Ref sig .tc := ⟨.hbm, 84, rfl⟩
abbrev main_call3_v13 : Ref sig .tc := ⟨.hbm, 85, rfl⟩
abbrev main_call3_v14 : Ref sig .tc := ⟨.hbm, 86, rfl⟩
abbrev main_call3_v15 : Ref sig .tc := ⟨.hbm, 87, rfl⟩
abbrev main_call3_cst : Ref sig .tc := ⟨.hbm, 88, rfl⟩
abbrev main_call3_v16 : Ref sig .tc := ⟨.hbm, 89, rfl⟩
abbrev main_v26 : Ref sig .tc := ⟨.hbm, 90, rfl⟩
abbrev main_v27 : Ref sig .tc := ⟨.hbm, 91, rfl⟩

abbrev nD : Nat := 1
abbrev τ : Topo := Topo.v7x

variable {F : FTy → Type} [FloatOps F]
-- ==== Proof.ScCommonI.lean ====
/-
  The SparseCore gather of `KernelIdeal`, as its launch theorem sees it: the resource algebra, the arrays the call
  takes, what it leaves in its two results (`rowsV`, `gpV`, in closed form of the arrays' contents), how those two
  results are divided among the thirty-two tiles, and what the launch's handshakes carry (`P`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The SparseCore call runs on 16 tiles of a core. -/
theorem nSub_zero : (K (F := F)).nSub 0 = 16 := rfl
/-- The SparseCore call runs on 2 cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer of a SparseCore is shared with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

abbrev UH : Type := URounds (GSem nD τ sig) ℕ
abbrev UPC : Type := UR sig nD τ × Counters
abbrev UU : Type := UH × UPC

local notation "𝕄" => MT nD τ sig (HIx 1) (Elt F) ℕ UU ℕ

abbrev EH : Emb UH (MT nD τ sig (HIx 1) (Elt F) ℕ UU ℕ) := embL
/-- The pipeline's rounds, embedded. -/
abbrev EP : Emb (UR sig nD τ) (MT nD τ sig (HIx 1) (Elt F) ℕ UU ℕ) := (Emb.inl : Emb (UR sig nD τ) UPC).trans embR
/-- The pipelined call's ghost state is a part of the user's. -/
instance EP_landsIn : (EP (F := F)).LandsIn (upEmb : UEmb _ (MT nD τ sig (HIx 1) (Elt F) ℕ UU ℕ)) := by unfold EP; infer_instance

/-! ## The arrays -/

abbrev feLoc (d : Dev nD) : Loc nD τ sig := (SparseCore.T d).loc main_v15
abbrev ptLoc (d : Dev nD) : Loc nD τ sig := (SparseCore.T d).loc main_v16
abbrev npLoc (d : Dev nD) : Loc nD τ sig := (SparseCore.T d).loc main_v17
abbrev ixLoc (d : Dev nD) : Loc nD τ sig := (SparseCore.T d).loc main_v13
abbrev rwLoc (d : Dev nD) : Loc nD τ sig := (SparseCore.T d).loc main_v18_0
abbrev gpLoc (d : Dev nD) : Loc nD τ sig := (SparseCore.T d).loc main_v18_1

/-- The contents of the call's four operands on each device. -/
structure Opnds (F : FTy → Type) where
  fe : (d : Dev nD) → Buf (Elt F) (feLoc d)
  pt : (d : Dev nD) → Buf (Elt F) (ptLoc d)
  np : (d : Dev nD) → Buf (Elt F) (npLoc d)
  ix : (d : Dev nD) → Buf (Elt F) (ixLoc d)

/-- Every index word names a row of its own batch: the words of batch `b` are the positions `32768 b … 32768 b + 32767`,
    the rows of batch `b` are `8192 b … 8192 b + 8191`. -/
def InBatch (X : Opnds F) : Prop := ∀ (d : Dev nD) (j : S131072.Idx), (X.ix d j).toNat / 8192 = (j 0).val / 32768

/-- The index of a rank-1 array at a position. -/
abbrev ix1 {n : ℕ} (i : Fin n) : (⟨1, ![n]⟩ : Shape).Idx := fun | 0 => i
/-- The index of a rank-2 array at a row and a column. -/
abbrev ix2 {n m : ℕ} (i : Fin n) (j : Fin m) : (⟨2, ![n, m]⟩ : Shape).Idx := fun | 0 => i | 1 => j

/-- The row of the feature table that the `j`-th index word names. -/
def rowOf (X : Opnds F) (d : Dev nD) (j : Fin 131072) : Fin 32768 := ⟨(X.ix d (ix1 j)).toNat % 32768, Nat.mod_lt _ (by norm_num)⟩
/-- The contents of the first result: row `j` is the row of the feature table that the `j`-th index word names. -/
def rowsV (X : Opnds F) (d : Dev nD) : S131072x128.Idx → F .f32 := fun x => X.fe d (ix2 (rowOf X d (x 0)) (x 1))

/-- The position of coordinate `k` of the point that index word `j` names in its batch's points. -/
def ptOf (X : Opnds F) (d : Dev nD) (k : Fin 3) (j : Fin 131072) : Fin 98304 :=
  ⟨j.val / 32768 * 24576 + k.val * 8192 + (X.ix d (ix1 j)).toNat % 8192, by
    have := Nat.mod_lt (X.ix d (ix1 j)).toNat (show 0 < 8192 by norm_num); omega⟩
/-- The position of coordinate `k` of the query point that position `j` belongs to. -/
def npOf (k : Fin 3) (j : Fin 131072) : Fin 12288 := ⟨j.val / 32768 * 3072 + k.val * 1024 + j.val / 32 % 1024, by omega⟩
/-- The second result at coordinate `k` and position `j`: that coordinate of the source point that the `j`-th index word
    names less that coordinate of the query point `j` belongs to. -/
def gpAt [FloatOps F] (X : Opnds F) (d : Dev nD) (k : Fin 3) (j : Fin 131072) : F .f32 :=
  FloatOps.subf (X.pt d (ix1 (ptOf X d k j))) (X.np d (ix1 (npOf k j)))
/-- The contents of the second result: its position is a coordinate and a position within it. -/
def gpV [FloatOps F] (X : Opnds F) (d : Dev nD) : S393216.Idx → F .f32 := fun x =>
  gpAt X d ⟨(x 0).val / 131072, by have h : (x 0).val < 393216 := (x 0).isLt; omega⟩ ⟨(x 0).val % 131072, Nat.mod_lt _ (by norm_num)⟩

/-! ## The division of the results among the tiles -/

/-- The elements of the first result that belong to tile `w`, `0 ≤ w < 32`: rows `4096 w … 4096 w + 4095`. -/
def rwSet (w : ℕ) : Finset S131072x128.Idx := Finset.univ.filter fun x => (x 0).val / 4096 = w
/-- The elements of the second result that belong to tile `w`: positions `4096 w … 4096 w + 4095` of each coordinate. -/
def gpSet (w : ℕ) : Finset S393216.Idx := Finset.univ.filter fun x => (x 0).val % 131072 / 4096 = w
/-- The elements of the first result that belong to SparseCore `c`: those of the tiles `2 s + c`. -/
def rwCore (c : ℕ) : Finset S131072x128.Idx := Finset.univ.filter fun x => (x 0).val / 4096 % 2 = c
/-- The elements of the second result that belong to SparseCore `c`. -/
def gpCore (c : ℕ) : Finset S393216.Idx := Finset.univ.filter fun x => (x 0).val % 131072 / 4096 % 2 = c

/-- A core's rows are its sixteen tiles' rows. -/
theorem rwCore_eq (c : Fin 2) : rwCore c.val = (Finset.univ : Finset (Fin 16)).biUnion fun s => rwSet (s.val * 2 + c.val) := by
  ext x
  simp only [rwCore, rwSet, Finset.mem_filter, Finset.mem_univ, true_and, Finset.mem_biUnion]
  have h : (x 0).val < 131072 := (x 0).isLt
  constructor
  · intro h1; exact ⟨⟨(x 0).val / 4096 / 2, by omega⟩, by dsimp only; omega⟩
  · rintro ⟨s, hs⟩; have := s.isLt; have := c.isLt; omega
/-- A core's coordinates are its sixteen tiles' coordinates. -/
theorem gpCore_eq (c : Fin 2) : gpCore c.val = (Finset.univ : Finset (Fin 16)).biUnion fun s => gpSet (s.val * 2 + c.val) := by
  ext x
  simp only [gpCore, gpSet, Finset.mem_filter, Finset.mem_univ, true_and, Finset.mem_biUnion]
  have h : (x 0).val < 393216 := (x 0).isLt
  constructor
  · intro h1; exact ⟨⟨(x 0).val % 131072 / 4096 / 2, by omega⟩, by dsimp only; omega⟩
  · rintro ⟨s, hs⟩; have := s.isLt; have := c.isLt; omega
/-- All rows are the two cores' rows. -/
theorem rwUniv_eq : (Finset.univ : Finset S131072x128.Idx) = (Finset.univ : Finset (Fin 2)).biUnion fun c => rwCore c.val := by
  ext x
  simp only [rwCore, Finset.mem_filter, Finset.mem_univ, true_and, Finset.mem_biUnion, true_iff]
  exact ⟨⟨(x 0).val / 4096 % 2, by omega⟩, rfl⟩
/-- All coordinates are the two cores' coordinates. -/
theorem gpUniv_eq : (Finset.univ : Finset S393216.Idx) = (Finset.univ : Finset (Fin 2)).biUnion fun c => gpCore c.val := by
  ext x
  simp only [gpCore, Finset.mem_filter, Finset.mem_univ, true_and, Finset.mem_biUnion, true_iff]
  exact ⟨⟨(x 0).val % 131072 / 4096 % 2, by omega⟩, rfl⟩

/-- Sets that are the fibres of one function are disjoint. -/
theorem fibre_disjoint {A : Type} [Fintype A] [DecidableEq A] (k : A → ℕ) {a b : ℕ} (h : a ≠ b) :
    Disjoint (Finset.univ.filter fun x => k x = a) (Finset.univ.filter fun x => k x = b) :=
  Finset.disjoint_filter.mpr fun _ _ h1 h2 => h (h1.symm.trans h2)

/-! ## Shares of the operands -/

/-- SparseCore `c`'s share of an operand: half. -/
abbrev coreSh (c : Fin 2) : PosShare TreeShare := ShareLeaves.leaf 1 fullShare c
/-- Tile `(c, s)`'s share of an operand: a sixteenth of its SparseCore's half. -/
abbrev tileSh (c : Fin 2) (s : Fin 16) : PosShare TreeShare := ShareLeaves.leaf 4 (coreSh c) s

variable [FloatOps F]

/-- The four operands held at share `q`. -/
abbrev opPts (X : Opnds F) (d : Dev nD) (q : PosShare TreeShare) : sProp 𝕄 :=
  iprop((feLoc d ↦{q} X.fe d) ∗ (ptLoc d ↦{q} X.pt d) ∗ (npLoc d ↦{q} X.np d) ∗ (ixLoc d ↦{q} X.ix d))

/-- What the handshakes carry: each SparseCore takes its share of the operands and its elements of the two results, at any
    contents, and brings them back with the results filled in; each tile likewise. -/
def P (X : Opnds F) : (K (F := F)).Pay (nD := nD) (Val := Elt F) (Name := ℕ) (U := UU) where
  st := fun q d c => match q with
    | 0 => iprop(opPts X d (coreSh (Fin.cast nCore_zero c)) ∗ (∃ f, rwLoc d ↦[rwCore c.val]{fullShare} f) ∗ (∃ f, gpLoc d ↦[gpCore c.val]{fullShare} f))
  dn := fun q d c => match q with
    | 0 => iprop(opPts X d (coreSh (Fin.cast nCore_zero c)) ∗ (rwLoc d ↦[rwCore c.val]{fullShare} rowsV X d) ∗ (gpLoc d ↦[gpCore c.val]{fullShare} gpV X d))
  go := fun q d c i => match q with
    | 0 => iprop(opPts X d (tileSh (Fin.cast nCore_zero c) (Fin.cast nSub_zero i)) ∗ (∃ f, rwLoc d ↦[rwSet ((Fin.cast nSub_zero i).val * 2 + c.val)]{fullShare} f)
        ∗ (∃ f, gpLoc d ↦[gpSet ((Fin.cast nSub_zero i).val * 2 + c.val)]{fullShare} f))
  td := fun q d c i => match q with
    | 0 => iprop(opPts X d (tileSh (Fin.cast nCore_zero c) (Fin.cast nSub_zero i)) ∗ (rwLoc d ↦[rwSet ((Fin.cast nSub_zero i).val * 2 + c.val)]{fullShare} rowsV X d)
        ∗ (gpLoc d ↦[gpSet ((Fin.cast nSub_zero i).val * 2 + c.val)]{fullShare} gpV X d))
  x := fun _ _ => iprop(emp)

/-- The call's protocol holds assertions that may be stored. -/
instance P_storable (X : Opnds F) : (P (F := F) X).IsStorable where
  st q d c := match q with
    | 0 => (inferInstance : BI.Storable (upEmb : UEmb _ 𝕄)
      iprop(opPts X d (coreSh (Fin.cast nCore_zero c)) ∗ (∃ f, rwLoc d ↦[rwCore c.val]{fullShare} f) ∗ (∃ f, gpLoc d ↦[gpCore c.val]{fullShare} f)))
  dn q d c := match q with
    | 0 => (inferInstance : BI.Storable (upEmb : UEmb _ 𝕄)
      iprop(opPts X d (coreSh (Fin.cast nCore_zero c)) ∗ (rwLoc d ↦[rwCore c.val]{fullShare} rowsV X d) ∗ (gpLoc d ↦[gpCore c.val]{fullShare} gpV X d)))
  go q d c i := match q with
    | 0 => (inferInstance : BI.Storable (upEmb : UEmb _ 𝕄)
      iprop(opPts X d (tileSh (Fin.cast nCore_zero c) (Fin.cast nSub_zero i)) ∗ (∃ f, rwLoc d ↦[rwSet ((Fin.cast nSub_zero i).val * 2 + c.val)]{fullShare} f)
        ∗ (∃ f, gpLoc d ↦[gpSet ((Fin.cast nSub_zero i).val * 2 + c.val)]{fullShare} f)))
  td q d c i := match q with
    | 0 => (inferInstance : BI.Storable (upEmb : UEmb _ 𝕄)
      iprop(opPts X d (tileSh (Fin.cast nCore_zero c) (Fin.cast nSub_zero i)) ∗ (rwLoc d ↦[rwSet ((Fin.cast nSub_zero i).val * 2 + c.val)]{fullShare} rowsV X d)
        ∗ (gpLoc d ↦[gpSet ((Fin.cast nSub_zero i).val * 2 + c.val)]{fullShare} gpV X d)))

/-! ## What a SparseCore takes is what its tiles take -/

/-- The operands at a share are the operands at each of its 2 ^ n leaves. -/
theorem opPts_leaves (X : Opnds F) (d : Dev nD) (n : ℕ) (q : PosShare TreeShare) :
    (opPts X d q : sProp 𝕄) = bigSep Finset.univ fun i : Fin (2 ^ n) => opPts X d (ShareLeaves.leaf n q i) := by
  unfold opPts
  rw [bigSep_sep', bigSep_sep', bigSep_sep', ← ShareLeaves.pointsTo_leaves, ← ShareLeaves.pointsTo_leaves,
    ← ShareLeaves.pointsTo_leaves, ← ShareLeaves.pointsTo_leaves]

/-- A core's part of the rows is split among its tiles. -/
theorem rw_tiles (d : Dev nD) (c : Fin 2) (f : Buf (Elt F) (rwLoc d)) :
    (rwLoc d ↦[rwCore c.val]{fullShare} f : sProp 𝕄)
      = bigSep Finset.univ fun s : Fin 16 => rwLoc d ↦[rwSet (s.val * 2 + c.val)]{fullShare} f := by
  rw [rwCore_eq]
  refine pointsTo_biUnion (ℓ := rwLoc d) Finset.univ (fun s : Fin 16 => rwSet (s.val * 2 + c.val)) fun s _ t _ h => ?_
  exact fibre_disjoint _ fun e => h (Fin.ext (by omega))
/-- A core's part of the coordinates is split among its tiles. -/
theorem gp_tiles (d : Dev nD) (c : Fin 2) (f : Buf (Elt F) (gpLoc d)) :
    (gpLoc d ↦[gpCore c.val]{fullShare} f : sProp 𝕄)
      = bigSep Finset.univ fun s : Fin 16 => gpLoc d ↦[gpSet (s.val * 2 + c.val)]{fullShare} f := by
  rw [gpCore_eq]
  refine pointsTo_biUnion (ℓ := gpLoc d) Finset.univ (fun s : Fin 16 => gpSet (s.val * 2 + c.val)) fun s _ t _ h => ?_
  exact fibre_disjoint _ fun e => h (Fin.ext (by omega))
/-- The rows are split among the cores. -/
theorem rw_cores (d : Dev nD) (f : Buf (Elt F) (rwLoc d)) :
    (rwLoc d ↦{fullShare} f : sProp 𝕄) = bigSep Finset.univ fun c : Fin 2 => rwLoc d ↦[rwCore c.val]{fullShare} f := by
  rw [← pointsTo_biUnion (ℓ := rwLoc d) Finset.univ (fun c : Fin 2 => rwCore c.val) fun s _ t _ h =>
    fibre_disjoint _ fun e => h (Fin.ext e)]
  exact congrArg (fun I => (rwLoc d ↦[I]{fullShare} f : sProp 𝕄)) rwUniv_eq
/-- The coordinates are split among the cores. -/
theorem gp_cores (d : Dev nD) (f : Buf (Elt F) (gpLoc d)) :
    (gpLoc d ↦{fullShare} f : sProp 𝕄) = bigSep Finset.univ fun c : Fin 2 => gpLoc d ↦[gpCore c.val]{fullShare} f := by
  rw [← pointsTo_biUnion (ℓ := gpLoc d) Finset.univ (fun c : Fin 2 => gpCore c.val) fun s _ t _ h =>
    fibre_disjoint _ fun e => h (Fin.ext e)]
  exact congrArg (fun I => (gpLoc d ↦[I]{fullShare} f : sProp 𝕄)) gpUniv_eq

/-- A separating product over `Fin n` is the one over `Fin m` where `n = m`. -/
theorem bigSep_cast {n m : ℕ} (h : n = m) (Φ : Fin m → sProp 𝕄) :
    (bigSep Finset.univ fun i : Fin n => Φ (Fin.cast h i)) = bigSep Finset.univ Φ := by
  subst h; rfl

/-- A conjunction over the tiles of three parts each is the parts' conjunctions. -/
theorem bigSep_sep3 (A B C : Fin 16 → sProp 𝕄) :
    (bigSep Finset.univ fun i => iprop(A i ∗ B i ∗ C i)) = iprop(bigSep Finset.univ A ∗ bigSep Finset.univ B ∗ bigSep Finset.univ C) := by
  rw [bigSep_sep' Finset.univ A (fun i => iprop(B i ∗ C i)), bigSep_sep' Finset.univ B C]

/-- Contents given once are contents given to each tile. -/
theorem bigSep_exists {A : Type} (f : A) (Φ : Fin 16 → A → sProp 𝕄) :
    (bigSep Finset.univ fun i => Φ i f) ⊢ bigSep Finset.univ fun i => iprop(∃ a, Φ i a) :=
  bigSep_mono fun i _ => exists_intro (Φ := fun a => Φ i a) f

/-- A SparseCore deals what it takes to its sixteen tiles and gathers back what they bring. -/
theorem vecSplit (X : Opnds F) : (K (F := F)).VecSplit' (P X) 0 := by
  intro d c
  show iprop(opPts X d (coreSh (Fin.cast nCore_zero c)) ∗ (∃ f, rwLoc d ↦[rwCore c.val]{fullShare} f) ∗ (∃ f, gpLoc d ↦[gpCore c.val]{fullShare} f))
    ⊢ |={Set.univ}=> iprop(
      (bigSep Finset.univ fun i : Fin ((K (F := F)).nSub 0) =>
        iprop(opPts X d (tileSh (Fin.cast nCore_zero c) (Fin.cast nSub_zero i)) ∗ (∃ f, rwLoc d ↦[rwSet ((Fin.cast nSub_zero i).val * 2 + c.val)]{fullShare} f)
          ∗ (∃ f, gpLoc d ↦[gpSet ((Fin.cast nSub_zero i).val * 2 + c.val)]{fullShare} f)))
      ∗ ((bigSep Finset.univ fun i : Fin ((K (F := F)).nSub 0) =>
          iprop(opPts X d (tileSh (Fin.cast nCore_zero c) (Fin.cast nSub_zero i)) ∗ (rwLoc d ↦[rwSet ((Fin.cast nSub_zero i).val * 2 + c.val)]{fullShare} rowsV X d)
            ∗ (gpLoc d ↦[gpSet ((Fin.cast nSub_zero i).val * 2 + c.val)]{fullShare} gpV X d)))
          -∗ iprop(opPts X d (coreSh (Fin.cast nCore_zero c)) ∗ (rwLoc d ↦[rwCore c.val]{fullShare} rowsV X d) ∗ (gpLoc d ↦[gpCore c.val]{fullShare} gpV X d))))
  rw [bigSep_cast (F := F) nSub_zero (fun i => iprop(opPts X d (tileSh (Fin.cast nCore_zero c) i) ∗ (∃ f, rwLoc d ↦[rwSet (i.val * 2 + c.val)]{fullShare} f)
          ∗ (∃ f, gpLoc d ↦[gpSet (i.val * 2 + c.val)]{fullShare} f))),
    bigSep_cast (F := F) nSub_zero (fun i => iprop(opPts X d (tileSh (Fin.cast nCore_zero c) i) ∗ (rwLoc d ↦[rwSet (i.val * 2 + c.val)]{fullShare} rowsV X d)
            ∗ (gpLoc d ↦[gpSet (i.val * 2 + c.val)]{fullShare} gpV X d))),
    bigSep_sep3 (F := F) (fun i => opPts X d (tileSh (Fin.cast nCore_zero c) i)), bigSep_sep3 (F := F) (fun i => opPts X d (tileSh (Fin.cast nCore_zero c) i)),
    opPts_leaves X d 4 (coreSh (Fin.cast nCore_zero c))]
  rw [show (rwLoc d ↦[rwCore c.val]{fullShare} rowsV X d : sProp 𝕄) = _ from rw_tiles d (Fin.cast nCore_zero c) (rowsV X d),
    show (gpLoc d ↦[gpCore c.val]{fullShare} gpV X d : sProp 𝕄) = _ from gp_tiles d (Fin.cast nCore_zero c) (gpV X d)]
  iintro ⟨Hop, ⟨%f, Hrw⟩, ⟨%g, Hgp⟩⟩; imodintro
  isplitl
  · isplitl [Hop]; · iexact Hop
    isplitl [Hrw]
    · ihave H := (Entails.of_eq (show (rwLoc d ↦[rwCore c.val]{fullShare} f : sProp 𝕄) = _ from rw_tiles d (Fin.cast nCore_zero c) f)) $$ Hrw
      iapply (bigSep_exists (F := F) f fun s a => (rwLoc d ↦[rwSet (s.val * 2 + c.val)]{fullShare} a))
      iexact H
    · ihave H := (Entails.of_eq (show (gpLoc d ↦[gpCore c.val]{fullShare} g : sProp 𝕄) = _ from gp_tiles d (Fin.cast nCore_zero c) g)) $$ Hgp
      iapply (bigSep_exists (F := F) g fun s a => (gpLoc d ↦[gpSet (s.val * 2 + c.val)]{fullShare} a))
      iexact H
  · iintro H; iexact H

end Cert.Proof.ScI

end
-- ==== Proof.ScTileI.lean ====
/-
  The task of one tile of the SparseCore gather of `KernelIdeal`, at a symbolic SparseCore and tile: the three fetches, the loop of row
  gathers, the loop of coordinate differences, the three write-outs, with what each leaves behind in closed form.
-/
module

public import proofs.«01_k».proof.Proof.ScCommonI

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile and its buffers -/

abbrev cV (L : grid1.Coords) : Fin τ.nSC := (L 0).castLE hcore1
abbrev jV (L : grid1.Coords) : Fin τ.nSub := (L 1).castLE hsub1
/-- The thread of the tile at grid point `L` of device `d`. -/
abbrev thr (d : Dev nD) (L : grid1.Coords) : Thread nD τ := V d (cV L) (jV L)
/-- There are two cores. -/
theorem lt0 (L : grid1.Coords) : (L 0).val < 2 := (L 0).isLt
/-- There are sixteen tiles. -/
theorem lt1 (L : grid1.Coords) : (L 1).val < 16 := (L 1).isLt
/-- The tile's number, twice its subcore plus its SparseCore. -/
def wid (L : grid1.Coords) : ℕ := (L 1).val * 2 + (L 0).val
/-- There are 32 workers. -/
theorem wid_lt (L : grid1.Coords) : wid L < 32 := by have := lt0 L; have := lt1 L; unfold wid; omega
/-- The tile's share of an operand. -/
abbrev sh (L : grid1.Coords) : PosShare TreeShare := tileSh (Fin.cast rfl (L 0) : Fin 2) (Fin.cast rfl (L 1) : Fin 16)

abbrev feM : Memref sig .scVector .hbm S32768x128 .f32 := Memref.whole main_v15_scv
abbrev ptM : Memref sig .scVector .hbm S98304 .f32 := Memref.whole main_v16_scv
abbrev npM : Memref sig .scVector .hbm S12288 .f32 := Memref.whole main_v17_scv
abbrev ixM : Memref sig .scVector .hbm S131072 .i32 := Memref.whole main_v13_scv
abbrev rwM : Memref sig .scVector .hbm S131072x128 .f32 := Memref.whole main_v18_0_scv
abbrev gpM : Memref sig .scVector .hbm S393216 .f32 := Memref.whole main_v18_1_scv
abbrev ixS : Memref sig .scVector .vmem S4096 .i32 := Memref.whole cc1_scratch0
abbrev ptS : Memref sig .scVector .vmem S24576 .f32 := Memref.whole cc1_scratch1
abbrev npS : Memref sig .scVector .vmem S3072 .f32 := Memref.whole cc1_scratch2
abbrev rwS : Memref sig .scVector .vmem S128x128 .f32 := Memref.whole cc1_scratch3
abbrev gpS : Memref sig .scVector .vmem S12288 .f32 := Memref.whole cc1_scratch4

/-- The position of the tile's `a`-th index word. -/
def posOf (L : grid1.Coords) (a : Fin 4096) : Fin 131072 := ⟨4096 * wid L + a.val, by have := wid_lt L; omega⟩
/-- The index words fetched: the tile's 4096 of them. -/
def ixT (X : Opnds F) (d : Dev nD) (L : grid1.Coords) : S4096.Idx → BitVec 32 := fun x => X.ix d (ix1 (posOf L (x 0)))
/-- The points fetched: those of the tile's batch. -/
def ptT (X : Opnds F) (d : Dev nD) (L : grid1.Coords) : S24576.Idx → F .f32 := fun x =>
  X.pt d (ix1 ⟨24576 * (wid L / 8) + (x 0).val, by have := wid_lt L; have h : (x 0).val < 24576 := (x 0).isLt; omega⟩)
/-- The query points fetched: those of the tile's batch. -/
def npT (X : Opnds F) (d : Dev nD) (L : grid1.Coords) : S3072.Idx → F .f32 := fun x =>
  X.np d (ix1 ⟨3072 * (wid L / 8) + (x 0).val, by have := wid_lt L; have h : (x 0).val < 3072 := (x 0).isLt; omega⟩)

/-- A whole-buffer write read back. -/
theorem read_writes_whole {κ : Kind} {sp : Space} {s : Shape} {e : EltTy} (v : View sig κ sp s e) (f : v.ty.Contents (Elt F)) (w : s.Idx → Elt F e) (y : s.Idx) :
    v.read (Elt F) (v.writes (Elt F) f [⟨Rect.whole s, w⟩]) y = w y := by
  have h := View.read_writes_cons_emb (v := v) (Val := Elt F) (f := f) (Rect.whole s) w [] y
  rwa [Rect.emb_whole_apply] at h

/-! ## The loop of row gathers -/

/-- The rows below the `k`-th chunk of the tile are written. -/
def RowsOK (X : Opnds F) (d : Dev nD) (L : grid1.Coords) (k : ℕ) (f : S131072x128.Idx → F .f32) : Prop :=
  ∀ x : S131072x128.Idx, x ∈ rwSet (wid L) → (x 0).val < 4096 * wid L + 128 * k → f x = rowsV X d x

/-- What the loop of row gathers holds before its `k`-th trip. -/
def inv1 (X : Opnds F) (d : Dev nD) (L : grid1.Coords) (O : CellTallies nD τ sig (HIx 1)) (W : Waits sig (HIx 1)) (k : ℕ) (_ : BitVec 32) : sProp 𝕄 :=
  iprop(Transfers.MayWaits (thr d L) (default : HIx 1) O ∗ ((feM).view.loc (thr d L) ↦{sh L} X.fe d) ∗ ((ixS).view.loc (thr d L) ↦{fullShare} ixT X d L)
    ∗ (∃ f, (rwS).view.loc (thr d L) ↦{fullShare} f) ∗ (∃ f, ⌜RowsOK X d L k f⌝ ∗ (rwM).view.loc (thr d L) ↦[rwSet (wid L)]{fullShare} f)
    ∗ semVal (thr d L, .dma cc1_scratch5.sem) 0 ∗ semVal (thr d L, .dma cc1_scoped3.sem) 0
    ∗ ∃ W', ⌜∀ p ∈ W', p ∈ W ∨ p.2 = none⌝ ∗ owes (thr d L) O W')

/-- The rows one trip writes out. -/
abbrev rwK (L : grid1.Coords) (k : Fin k1_t1_loop.trips) : Memref sig .scVector .hbm S128x128 .f32 :=
  (rwM).slice (Rect.unit (s := S131072x128) (k1_off5 L k) S128x128.size (k1_off5_inb L k)) (fun _ => rfl)

/-- The first loop makes at most 32 trips. -/
theorem t1_lt (k : Fin k1_t1_loop.trips) : k.val < 32 := Nat.lt_of_lt_of_le k.isLt k1_t1_abs.2.1
/-- A trip's rows begin at the worker's first and the trip's. -/
theorem off5_0 (L : grid1.Coords) (k : Fin k1_t1_loop.trips) : k1_off5 L k 0 = 4096 * wid L + 128 * k.val := by
  rw [k1_off5_eq]; show 8192 * (L 1).val + 4096 * (L 0).val + 128 * k.val = _; unfold wid; omega
/-- A trip's rows are whole. -/
theorem off5_1 (L : grid1.Coords) (k : Fin k1_t1_loop.trips) : k1_off5 L k 1 = 0 := by rw [k1_off5_eq]; rfl

/-- The elements a trip writes: its 128 rows. -/
theorem mem_rwK (L : grid1.Coords) (k : Fin k1_t1_loop.trips) (x : S131072x128.Idx) :
    x ∈ (rwK L k).view.set ↔ 4096 * wid L + 128 * k.val ≤ (x 0).val ∧ (x 0).val < 4096 * wid L + 128 * k.val + 128 := by
  have e : (rwK L k).view.set = (Rect.unit (s := S131072x128) (k1_off5 L k) S128x128.size (k1_off5_inb L k)).set := by
    show ((View.whole (main_v18_0_scv : Ref sig .scVector)).slice _).set = _
    rw [View.set_slice]; exact Finset.map_refl
  rw [e, Rect.mem_set_unit]
  constructor
  · intro h; have := h 0; rw [off5_0] at this; exact this
  · intro h a
    match a with
    | 0 => rw [off5_0]; exact h
    | 1 => rw [off5_1]; exact ⟨Nat.zero_le _, by rw [Nat.zero_add]; exact (x 1).isLt⟩

/-- A trip's rows are among the tile's. -/
theorem rwK_sub (L : grid1.Coords) (k : Fin k1_t1_loop.trips) : (rwK L k).view.set ⊆ rwSet (wid L) := by
  intro x hx
  rw [mem_rwK] at hx
  have := t1_lt k
  simp only [rwSet, Finset.mem_filter, Finset.mem_univ, true_and]
  omega

/-- The row of the result that a trip's row is. -/
theorem rwK_emb0 (L : grid1.Coords) (k : Fin k1_t1_loop.trips) (y : S128x128.Idx) :
    (((rwK L k).view.emb y) 0).val = 4096 * wid L + 128 * k.val + (y 0).val := by
  rw [← off5_0]
  show k1_off5 L k 0 + 1 * (y 0).val = _
  omega
/-- A trip's row has its columns in their place. -/
theorem rwK_emb1 (L : grid1.Coords) (k : Fin k1_t1_loop.trips) (y : S128x128.Idx) : (((rwK L k).view.emb y) 1).val = (y 1).val := by
  show k1_off5 L k 1 + 1 * (y 1).val = _
  rw [off5_1]; omega

/-- Writing a trip's rows, each as the result has it, extends the rows written. -/
theorem rows_step (X : Opnds F) (d : Dev nD) (L : grid1.Coords) (k : Fin k1_t1_loop.trips) (f : S131072x128.Idx → F .f32) (hf : RowsOK X d L k.val f)
    (pay : S128x128.Idx → F .f32) (hp : ∀ y, pay y = rowsV X d ((rwK L k).view.emb y)) :
    RowsOK X d L (k.val + 1) ((rwK L k).view.writes (Elt F) f [⟨Rect.whole S128x128, pay⟩]) := by
  intro x hx hlt
  by_cases h : x ∈ (rwK L k).view.set
  · obtain ⟨y, -, rfl⟩ := Finset.mem_map.mp h
    refine Eq.trans ?_ (hp y)
    exact read_writes_whole (rwK L k).view f pay y
  · have e : (rwK L k).view.writes (Elt F) f [⟨Rect.whole S128x128, pay⟩] x = f x :=
      View.writes_apply_of_forall_ne (rwK L k).view (Val := Elt F) f [⟨Rect.whole S128x128, pay⟩] fun y e => h (Finset.mem_map.mpr ⟨y, Finset.mem_univ _, e⟩)
    rw [e]
    rw [mem_rwK] at h
    exact hf x hx (by omega)

/-- A trip's copy changes no other row of the tile. -/
theorem rows_off (L : grid1.Coords) (k : Fin k1_t1_loop.trips) (f : S131072x128.Idx → F .f32) (pay : S128x128.Idx → F .f32) :
    ∀ x ∈ rwSet (wid L) \ (rwK L k).view.set, f x = (rwK L k).view.writes (Elt F) f [⟨Rect.whole S128x128, pay⟩] x := by
  intro x hx
  exact (View.writes_apply_of_forall_ne (rwK L k).view (Val := Elt F) f [⟨Rect.whole S128x128, pay⟩] fun y e => (Finset.mem_sdiff.mp hx).2 (Finset.mem_map.mpr ⟨y, Finset.mem_univ _, e⟩)).symm

/-- The list a trip's gather reads. -/
abbrev ixK (k : Fin k1_t1_loop.trips) : Memref sig .scVector .vmem S128 .i32 :=
  (ixS).slice (Rect.unit (s := S4096) (k1_off4 k) S128.size (k1_off4_inb k)) (fun _ => rfl)

/-- A trip's words are the 128 words of its positions. -/
theorem ixK_read (X : Opnds F) (d : Dev nD) (L : grid1.Coords) (k : Fin k1_t1_loop.trips) (x : S128.Idx) :
    (ixK k).view.read (Elt F) (ixT X d L) x = X.ix d (ix1 (posOf L ⟨128 * k.val + (x 0).val, by
      have := t1_lt k; have h : (x 0).val < 128 := (x 0).isLt; omega⟩)) := by
  have e : (((ixK k).view.emb x) 0).val = 128 * k.val + (x 0).val := by
    show k1_off4 k 0 + 1 * (x 0).val = _
    rw [k1_off4_eq]; show 128 * k.val + 1 * (x 0).val = _; omega
  show X.ix d (ix1 (posOf L (((ixK k).view.emb x) 0))) = _
  congr 3
  exact Fin.ext e

/-- A word names a row of the table. -/
theorem ix_lt (X : Opnds F) (hX : InBatch X) (d : Dev nD) (j : Fin 131072) : (X.ix d (ix1 j)).toNat < 32768 := by
  have h := hX d (ix1 j)
  have : ((ix1 j : S131072.Idx) 0).val < 131072 := j.isLt
  omega

/-- The row of a position is what its word says. -/
theorem rowOf_val (X : Opnds F) (hX : InBatch X) (d : Dev nD) (j : Fin 131072) : (rowOf X d j).val = (X.ix d (ix1 j)).toNat :=
  Nat.mod_eq_of_lt (ix_lt X hX d j)

/-- A trip's words are in the table's range. -/
theorem hin1 (X : Opnds F) (hX : InBatch X) (d : Dev nD) (L : grid1.Coords) (k : Fin k1_t1_loop.trips) :
    ∀ x, ((ixK k).view.read (Elt F) (ixT X d L) x).toNat < S32768x128.size gathers_S32768x128_S128x128.axis := by
  intro x; rw [ixK_read]; exact ix_lt X hX d _

/-- The gathered rows are the result's. -/
theorem gathered (X : Opnds F) (hX : InBatch X) (d : Dev nD) (L : grid1.Coords) (k : Fin k1_t1_loop.trips) (g : S32768x128.Idx → F .f32) (hg : g = X.fe d)
    (hn : S128.numel = S128x128.size gathers_S32768x128_S128x128.axis') (y : S128x128.Idx) :
    SparseCore.gatherPayload (F := F) (e := .f32) gathers_S32768x128_S128x128 g (SparseCore.rows (F := F) ((ixK k).view.read (Elt F) (ixT X d L)) hn (hin1 X hX d L k)) y
      = rowsV X d ((rwK L k).view.emb y) := by
  subst hg
  unfold SparseCore.gatherPayload rowsV
  refine congrArg (X.fe d) (funext fun a => ?_)
  match a with
  | 0 =>
    refine (Shape.Gathers.idx_axis gathers_S32768x128_S128x128 _ y).trans (Fin.ext ?_)
    refine Eq.trans ?_ (rowOf_val X hX d _).symm
    refine (congrArg BitVec.toNat (ixK_read X d L k (S128.rowMajor.symm ((y 0).cast hn.symm)))).trans ?_
    have e : ((S128.rowMajor.symm ((y 0).cast hn.symm)) 0).val = (y 0).val := by
      have h := Shape.rowMajor_val_one (S128.rowMajor.symm ((y 0).cast hn.symm))
      rw [Equiv.apply_symm_apply] at h
      exact h.symm
    refine congrArg (fun j => (X.ix d (ix1 j)).toNat) (Fin.ext ?_)
    refine Eq.trans ?_ (rwK_emb0 L k y).symm
    show 4096 * wid L + (128 * k.val + _) = _
    rw [e]; omega
  | 1 =>
    refine Fin.ext ?_
    refine (Shape.Gathers.idx_of_ne gathers_S32768x128_S128x128 _ y 1 (by decide)).trans ?_
    exact (rwK_emb1 L k y).symm

/-- One trip of the first loop keeps its invariant. -/
theorem trip1 (X : Opnds F) (hX : InBatch X) (d : Dev nD) (L : grid1.Coords) (O : CellTallies nD τ sig (HIx 1)) (W : Waits sig (HIx 1))
    (v1 v18 v24 c : BitVec 32) (k : Fin k1_t1_loop.trips) (acc : BitVec 32) :
    inv1 X d L O W k.val acc ⊢ wp frame (wpE (defs₀ (F := F)) 𝒱₀ (thr d L) none) Set.univ
      (k1_t1_body L feM (Memref.isWhole_whole _) ptM (Memref.isWhole_whole _) npM (Memref.isWhole_whole _) ixM (Memref.isWhole_whole _)
        rwM (Memref.isWhole_whole _) gpM (Memref.isWhole_whole _) ixS (Memref.isWhole_whole _) ptS (Memref.isWhole_whole _) npS (Memref.isWhole_whole _)
        rwS (Memref.isWhole_whole _) gpS (Memref.isWhole_whole _) cc1_scratch5 cc1_scoped0 cc1_scoped1 cc1_scoped2 cc1_scoped3 cc1_scoped4 cc1_scoped5 cc1_scoped6
        v1 v18 v24 c k acc)
      fun acc' => inv1 X d L O W (k.val + 1) acc' := by
  unfold k1_t1_body inv1
  iintro ⟨Hmw, Hfe, Hix, ⟨%fr, Hr⟩, ⟨%f, %hf, Hrw⟩, Hs5, Hs3, %W', %hW', HO⟩
  have hin := hin1 X hX d L k
  ihave Hsp := (pointsTo_split_subset (ℓ := (rwM).view.loc (thr d L)) (q := fullShare) (f := f) (rwK_sub L k)).1 $$ Hrw
  icases Hsp with ⟨Hrk0, Hrest⟩
  ihave Hrk := (Entails.of_eq (show ((rwM).view.loc (thr d L) ↦[(rwK L k).view.set]{fullShare} f : sProp 𝕄)
      = ((rwK L k).view.loc (thr d L) ↦[(rwK L k).view.set]{fullShare} f) from rfl)) $$ Hrk0
  sl_exec (disch := exact View.amount_pos _ _ (show 0 < S128x128.numel by decide))
  sl_step
  have hpay : ∀ y, trip1.sl.dma0 X d L k fr hin y = rowsV X d ((rwK L k).view.emb y) := by
    intro y
    unfold trip1.sl.dma0 trip1.sl.gather0
    refine Eq.trans ?_ (gathered X hX d L k ((feM.slice (Rect.unit ![0, 0] S32768x128.size inb_S32768x128_S32768x128_0_0) (fun _ => rfl)).view.read (Elt F) (X.fe d)) ?_ rfl y)
    · exact read_writes_whole (rwS).view fr _ y
    · exact Memref.read_access_unit_zero (Elt F) main_v15_scv (off := ![0, 0]) (by funext a; match a with | 0 => rfl | 1 => rfl) _ (X.fe d)
  ihave Hrest' := (Entails.of_eq (pointsTo_congr (ℓ := (rwM).view.loc (thr d L)) (q := fullShare) (rows_off L k f (trip1.sl.dma0 X d L k fr hin)))) $$ Hrest
  ihave Hrw := (pointsTo_split_subset (ℓ := (rwM).view.loc (thr d L)) (q := fullShare) (f := (rwK L k).view.writes (Elt F) f [⟨Rect.whole S128x128, trip1.sl.dma0 X d L k fr hin⟩]) (rwK_sub L k)).2 $$ [Hrk Hrest']
  · isplitl [Hrk] <;> iassumption
  isplitl [Hmw]; · iexact Hmw
  isplitl [Hfe]; · iexact Hfe
  isplitl [Hix]; · iexact Hix
  isplitl [Hr]; · iexists _; iexact Hr
  isplitl [Hrw]
  · iexists _
    isplitr
    · ipureintro; exact rows_step X d L k f hf _ hpay
    · iexact Hrw
  isplitl [Hs5]; · iexact Hs5
  isplitl [Hs3]; · iexact Hs3
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.ScI

end
-- ==== Proof.ScTile2I.lean ====
/-
  The second loop of a tile of `KernelIdeal`'s SparseCore gather: sixteen coordinate differences a trip, computed from the words of the index
  list, scattered into the tile's scratch.
-/
module

public import proofs.«01_k».proof.Proof.ScTileI

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A scatter of lanes -/

/-- Positions no lane names keep their contents. -/
theorem fold_miss {A I α : Type} (hit : A → I → Prop) [∀ a j, Decidable (hit a j)] (v : A → α) (j : I) :
    ∀ (l : List A) (f : I → α), (∀ k ∈ l, ¬hit k j) → l.foldl (fun g k => fun j => if hit k j then v k else g j) f j = f j
  | [], _, _ => rfl
  | a :: l, f, h => by
    rw [List.foldl_cons, fold_miss hit v j l _ fun k hk => h k (List.mem_cons_of_mem _ hk), if_neg (h a List.mem_cons_self)]

/-- A position some lane names holds that lane's value, where all lanes naming it agree. -/
theorem fold_hit {A I α : Type} (hit : A → I → Prop) [∀ a j, Decidable (hit a j)] (v : A → α) (j : I) (w : α) :
    ∀ (l : List A) (f : I → α), (∃ p ∈ l, hit p j) → (∀ k ∈ l, hit k j → v k = w) → l.foldl (fun g k => fun j => if hit k j then v k else g j) f j = w
  | [], _, ⟨_, hp, _⟩, _ => nomatch hp
  | a :: l, f, h, hv => by
    rw [List.foldl_cons]
    by_cases hl : ∃ p ∈ l, hit p j
    · exact fold_hit hit v j w l _ hl fun k hk => hv k (List.mem_cons_of_mem _ hk)
    · rw [fold_miss hit v j l _ fun k hk hj => hl ⟨k, hk, hj⟩]
      obtain ⟨p, hp, hj⟩ := h
      rcases List.mem_cons.mp hp with rfl | hp
      · rw [if_pos hj]; exact hv p List.mem_cons_self hj
      · exact absurd ⟨p, hp, hj⟩ hl

/-- A scatter of sixteen lanes to sixteen consecutive positions from `o`: it writes those and keeps the rest. -/
theorem storeIdx_run (f : S12288.Idx → F .f32) (idx : IVec S16 32) (v : S16.Idx → F .f32) (h : ∀ a x, ((![idx] : Fin 1 → IVec S16 32) a x).toNat < S12288.size a)
    (o : ℕ) (ho : ∀ x : S16.Idx, (idx x).toNat = o + (x 0).val) (j : Fin 12288) :
    storeIdx (F := F) (s := S12288) (e := .f32) (d := ![16]) f ![idx] v (fun _ => 1#1) false h (ix1 j)
      = if hj : o ≤ j.val ∧ j.val < o + 16 then v (ix1 ⟨j.val - o, by omega⟩) else f (ix1 j) := by
  have hs : storeIdx (F := F) (s := S12288) (e := .f32) (d := ![16]) f ![idx] v (fun _ => 1#1) false h
      = (List.finRange 16).foldl (fun g (k : Fin 16) => fun j : S12288.Idx => if (j 0).val = o + k.val then v (ix1 k) else g j) f := by
    unfold storeIdx
    refine congrArg (fun st => (List.finRange 16).foldl st f) (funext fun g => funext fun k => ?_)
    have e1 : (Shape.ofLane (d := ![16]) k : S16.Idx) = ix1 k := by funext a; match a with | 0 => rfl
    refine (if_pos rfl).trans (funext fun j => ?_)
    have e2 : (∀ a, (j a).val = (idxAt (s := S12288) ![idx] h (Shape.ofLane (d := ![16]) k) a).val) ↔ (j 0).val = o + k.val := by
      rw [e1]
      have h0 := ho (ix1 k)
      exact ⟨fun q => (q 0).trans h0, fun q a => match a with | 0 => q.trans h0.symm⟩
    by_cases hc : (j 0).val = o + k.val
    · exact (if_pos (e2.mpr hc)).trans ((congrArg v e1).trans (if_pos hc).symm)
    · exact (if_neg fun q => hc (e2.mp q)).trans (if_neg hc).symm
  rw [hs]
  by_cases hj : o ≤ j.val ∧ j.val < o + 16
  · rw [dif_pos hj]
    refine fold_hit (fun (k : Fin 16) (j : S12288.Idx) => (j 0).val = o + k.val) (fun k => v (ix1 k)) (ix1 j) _ _ f ⟨⟨j.val - o, by omega⟩, List.mem_finRange _, ?_⟩ ?_
    · show j.val = o + (j.val - o); omega
    · intro k _ hk
      refine congrArg (fun k => v (ix1 k)) (Fin.ext ?_)
      have : j.val = o + k.val := hk
      show k.val = j.val - o; omega
  · rw [dif_neg hj]
    refine fold_miss (fun (k : Fin 16) (j : S12288.Idx) => (j 0).val = o + k.val) (fun k => v (ix1 k)) (ix1 j) _ f ?_
    intro k _ hk
    have : j.val = o + k.val := hk
    have := k.isLt
    exact hj ⟨by omega, by omega⟩

/-! ## The words of a trip -/

/-- The second loop makes at most 256 trips. -/
theorem t2_lt (k : Fin k1_t2_loop.trips) : k.val < 256 := Nat.lt_of_lt_of_le k.isLt k1_t2_abs.2.1

/-- The position, among the tile's 4096, of lane `x` of trip `k`. -/
def posK (k : Fin k1_t2_loop.trips) (x : S16.Idx) : Fin 4096 := ⟨16 * k.val + (x 0).val, by have := t2_lt k; have h : (x 0).val < 16 := (x 0).isLt; omega⟩

/-- Floor division by 32 of one word, as the trip computes it. -/
def divW (y : BitVec 32) : BitVec 32 :=
  Scalar.select
    (IntOp.andi (IntOp.cmpi .ne (IntOp.subi ((IntOp.cmpi .sgt y 0#32).setWidth 32) ((IntOp.cmpi .slt y 0#32).setWidth 32))
        (Scalar.subi (Scalar.extui (Scalar.cmpi .sgt 32#32 0#32)) (Scalar.extui (Scalar.cmpi .slt 32#32 0#32))))
      (IntOp.cmpi .ne (IntOp.remsi .vector y 32#32) 0#32))
    (IntOp.subi (IntOp.divsi .vector y 32#32) 1#32) (IntOp.divsi .vector y 32#32)

/-- The printed floor division by 32 is the division of naturals, of a number below 4096. -/
theorem divW_nat : ∀ n : Fin 4096, divW (BitVec.ofNat 32 n.val) = BitVec.ofNat 32 (n.val / 32) := by decide +kernel

/-- The lane numbers. -/
abbrev lanes : IVec S16 32 := iota .scVector S16 32 [0] iota_S16_d0_w32_scVector

/-- A lane's address is its position in the tile. -/
theorem pay2_nat (k : Fin k1_t2_loop.trips) (x : S16.Idx) : k1_pay2 lanes 0#32 1#32 k x = BitVec.ofNat 32 (posK k x).val := by
  show (0#32 + BitVec.ofNat 32 k.val * 1#32) * 16#32 + BitVec.ofNat 32 (0 * 16 + (x 0).val) = _
  have := t2_lt k
  have h : (x 0).val < 16 := (x 0).isLt
  apply BitVec.eq_of_toNat_eq
  simp only [posK, BitVec.toNat_add, BitVec.toNat_mul, BitVec.toNat_ofNat]
  omega

/-- A lane's group is the tile's first group and its position's 32nd part. -/
theorem pay3_nat (k : Fin k1_t2_loop.trips) (x : S16.Idx) (w : ℕ) :
    k1_pay3 (BitVec.ofNat 32 w) lanes 0#32 1#32 k x = BitVec.ofNat 32 (w + (posK k x).val / 32) := by
  show BitVec.ofNat 32 w + divW (k1_pay2 lanes 0#32 1#32 k x) = _
  rw [pay2_nat, divW_nat, ← BitVec.ofNat_add]

/-- A lane's word, less the first row of its batch, is the number of a point of the batch. -/
theorem pay1_nat (X : Opnds F) (hX : InBatch X) (d : Dev nD) (L : grid1.Coords) (k : Fin k1_t2_loop.trips) (v : S16.Idx → BitVec 32)
    (hv : ∀ x, v x = X.ix d (ix1 (posOf L (posK k x)))) (x : S16.Idx) :
    k1_pay1 (F := F) (BitVec.ofNat 32 (8192 * (wid L / 8))) v x = BitVec.ofNat 32 ((X.ix d (ix1 (posOf L (posK k x)))).toNat % 8192) := by
  show v x - BitVec.ofNat 32 (8192 * (wid L / 8)) = _
  rw [hv]
  have h := hX d (ix1 (posOf L (posK k x)))
  have e : ((ix1 (posOf L (posK k x)) : S131072.Idx) 0).val = 4096 * wid L + (posK k x).val := rfl
  rw [e] at h
  have := (posK k x).isLt
  have := wid_lt L
  generalize X.ix d (ix1 (posOf L (posK k x))) = w at h ⊢
  apply BitVec.eq_of_toNat_eq
  simp only [BitVec.toNat_sub, BitVec.toNat_ofNat]
  omega

/-- A word past another by a constant. -/
theorem shift_nat (v : BitVec 32) (n m : ℕ) (hv : v = BitVec.ofNat 32 n) (hn : n + m < 4294967296) : (v + BitVec.ofNat 32 m).toNat = n + m := by
  rw [hv, ← BitVec.ofNat_add, BitVec.toNat_ofNat]; omega

/-! ## One trip's values -/

/-- One lane's difference of coordinate `c`: that of its position in the result. -/
theorem diff_ok (X : Opnds F) (d : Dev nD) (L : grid1.Coords) (k : Fin k1_t2_loop.trips) (c : Fin 3) (p q : IVec S16 32)
    (hp : ∀ x, (p x).toNat = (X.ix d (ix1 (posOf L (posK k x)))).toNat % 8192 + 8192 * c.val)
    (hq : ∀ x, (q x).toNat = 128 * (wid L % 8) + (posK k x).val / 32 + 1024 * c.val)
    (h1 : ∀ a x, ((![p] : Fin 1 → IVec S16 32) a x).toNat < S24576.size a) (h2 : ∀ a x, ((![q] : Fin 1 → IVec S16 32) a x).toNat < S3072.size a) (x : S16.Idx) :
    FloatOps.subf (loadIdx (F := F) (s := S24576) (e := .f32) (ptT X d L) ![p] h1 x) (loadIdx (F := F) (s := S3072) (e := .f32) (npT X d L) ![q] h2 x)
      = gpAt X d c (posOf L (posK k x)) := by
  have e : (posOf L (posK k x)).val = 4096 * wid L + (posK k x).val := rfl
  have := (posK k x).isLt
  unfold gpAt
  refine congrArg₂ FloatOps.subf (congrArg (fun j => X.pt d (ix1 j)) (Fin.ext ?_)) (congrArg (fun j => X.np d (ix1 j)) (Fin.ext ?_))
  · show 24576 * (wid L / 8) + (p x).toNat = (ptOf X d c (posOf L (posK k x))).val
    rw [hp]; simp only [ptOf, e]; omega
  · show 3072 * (wid L / 8) + (q x).toNat = (npOf c (posOf L (posK k x))).val
    rw [hq]; simp only [npOf, e]; omega

/-- The differences written: those below trip `k`, and of trip `k` the first `m` coordinates'. -/
def GpOK (X : Opnds F) (d : Dev nD) (L : grid1.Coords) (k m : ℕ) (g : S12288.Idx → F .f32) : Prop :=
  ∀ (c : Fin 3) (a : Fin 4096), (a.val < 16 * k ∨ (c.val < m ∧ a.val < 16 * k + 16)) → g (ix1 ⟨4096 * c.val + a.val, by omega⟩) = gpAt X d c (posOf L a)

/-- An indexed store of one coordinate of the trip's lanes takes the invariant to the next coordinate. -/
theorem store_step (X : Opnds F) (d : Dev nD) (L : grid1.Coords) (k : Fin k1_t2_loop.trips) (c : Fin 3) (g : S12288.Idx → F .f32) (hg : GpOK X d L k.val c.val g)
    (idx : IVec S16 32) (v : S16.Idx → F .f32) (h : ∀ a x, ((![idx] : Fin 1 → IVec S16 32) a x).toNat < S12288.size a)
    (hi : ∀ x, (idx x).toNat = (posK k x).val + 4096 * c.val) (hv : ∀ x, v x = gpAt X d c (posOf L (posK k x))) :
    GpOK X d L k.val (c.val + 1) (storeIdx (F := F) (s := S12288) (e := .f32) (d := ![16]) g ![idx] v (fun _ => 1#1) false h) := by
  intro c' a ha
  have := t2_lt k
  rw [storeIdx_run g idx v h (4096 * c.val + 16 * k.val) (fun x => by rw [hi]; simp only [posK]; omega)]
  by_cases hj : 4096 * c.val + 16 * k.val ≤ 4096 * c'.val + a.val ∧ 4096 * c'.val + a.val < 4096 * c.val + 16 * k.val + 16
  · rw [dif_pos hj, hv]
    have ec : c = c' := Fin.ext (by omega)
    subst ec
    refine congrArg (fun a => gpAt X d c (posOf L a)) (Fin.ext ?_)
    show 16 * k.val + (4096 * c.val + a.val - (4096 * c.val + 16 * k.val)) = a.val
    omega
  · rw [dif_neg hj]
    exact hg c' a (by omega)

/-- With its three coordinates stored, a trip is done. -/
theorem GpOK.next {X : Opnds F} {d : Dev nD} {L : grid1.Coords} {k : ℕ} {g : S12288.Idx → F .f32} (h : GpOK X d L k 3 g) : GpOK X d L (k + 1) 0 g :=
  fun c a ha => h c a (by have := c.isLt; omega)

/-- What the loop of differences holds before its `k`-th trip. -/
def inv2 (X : Opnds F) (d : Dev nD) (L : grid1.Coords) (k : ℕ) (_ : BitVec 32) : sProp 𝕄 :=
  iprop(((ixS).view.loc (thr d L) ↦{fullShare} ixT X d L) ∗ ((ptS).view.loc (thr d L) ↦{fullShare} ptT X d L) ∗ ((npS).view.loc (thr d L) ↦{fullShare} npT X d L)
    ∗ ∃ g, ⌜GpOK X d L k 0 g⌝ ∗ (gpS).view.loc (thr d L) ↦{fullShare} g)

/-- The trip's load reads the lanes' words. -/
theorem load_ix (X : Opnds F) (d : Dev nD) (L : grid1.Coords) (k : Fin k1_t2_loop.trips) (x : S16.Idx) :
    (ixS).view.readAt (Elt F) (Rect.unit (s := S4096) (k1_off6 k) S16.size (k1_off6_inb k)).toLoadRect (ixT X d L) x = X.ix d (ix1 (posOf L (posK k x))) := by
  refine congrArg (fun a => X.ix d (ix1 (posOf L a))) (Fin.ext ?_)
  show k1_off6 k 0 + 1 * (x 0).val = _
  rw [k1_off6_eq]
  show 16 * k.val + 1 * (x 0).val = 16 * k.val + (x 0).val
  omega

/-- The whole of the tile's coordinate scratch is every one of its cells. -/
theorem set_gp : ((gpS).access (.whole S12288)).set = Finset.univ := by
  show ((View.whole (cc1_scratch4 : Ref sig .scVector)).slice _).set = _
  rw [View.set_slice]
  exact (congrArg (Finset.map _) (Rect.set_whole S12288)).trans Finset.map_refl

/-- To hold the tile's coordinate scratch through its access is to hold it. -/
theorem pts_gp (d : Dev nD) (L : grid1.Coords) (g : S12288.Idx → F .f32) :
    (((gpS).access (.whole S12288)).loc (thr d L) ↦[((gpS).access (.whole S12288)).set]{fullShare} g : sProp 𝕄) = ((gpS).view.loc (thr d L) ↦{fullShare} g) := by
  rw [set_gp]

/-- The access to the points reads all of them. -/
theorem rd_pt (f : S24576.Idx → F .f32) : ((ptS).access (.whole S24576)).read (Elt F) f = f := Memref.read_access_whole (Elt F) cc1_scratch1 f
/-- The access to the centres reads all of them. -/
theorem rd_np (f : S3072.Idx → F .f32) : ((npS).access (.whole S3072)).read (Elt F) f = f := Memref.read_access_whole (Elt F) cc1_scratch2 f
/-- The access to the coordinate scratch reads all of it. -/
theorem rd_gp (f : S12288.Idx → F .f32) : ((gpS).access (.whole S12288)).read (Elt F) f = f := Memref.read_access_whole (Elt F) cc1_scratch4 f
/-- A write of all of the coordinate scratch replaces it. -/
theorem wr_gp (f w : S12288.Idx → F .f32) : ((gpS).access (.whole S12288)).write (Elt F) f w Finset.univ = w := Memref.write_access_whole_univ (Elt F) cc1_scratch4 f w

/-- An assumed fact that holds is passed. -/
theorem wp_assume_bind {α : Type} (d : Dev nD) (L : grid1.Coords) {P : Prop} {dP : Decidable P} (h : P)
    (k : PLift P → Prog (TpuEff nD τ sig (Elt F) Λ₀ (.scVector ((L 0).castLE hcore1) ((L 1).castLE hsub1))) α) (Q : α → sProp 𝕄) :
    wp frame (wpE (defs₀ (F := F)) 𝒱₀ (thr d L) none) Set.univ (Prog.lift (TpuEff.assume P dP) >>= k) Q
      = wp frame (wpE (defs₀ (F := F)) 𝒱₀ (thr d L) none) Set.univ (k ⟨h⟩) Q :=
  wp_assume_of 𝒱₀ (thr d L) none Set.univ (k := k) h

/-- One coordinate's part of a trip: two loads at lanes, each at words known to be in range, and the scatter of their difference. -/
theorem coord_step {α : Type} (X : Opnds F) (d : Dev nD) (L : grid1.Coords) (k : Fin k1_t2_loop.trips) (c : Fin 3) (p q a : IVec S16 32)
    (hp : ∀ x, (p x).toNat = (X.ix d (ix1 (posOf L (posK k x)))).toNat % 8192 + 8192 * c.val)
    (hq : ∀ x, (q x).toNat = 128 * (wid L % 8) + (posK k x).val / 32 + 1024 * c.val)
    (ha : ∀ x, (a x).toNat = (posK k x).val + 4096 * c.val)
    (Pp Pq Pa : Prop) (dp : Decidable Pp) (dq : Decidable Pq) (da : Decidable Pa)
    (ep : Pp ↔ ∀ a x, ((![p] : Fin 1 → IVec S16 32) a x).toNat < S24576.size a)
    (eq : Pq ↔ ∀ a x, ((![q] : Fin 1 → IVec S16 32) a x).toNat < S3072.size a)
    (ea : Pa ↔ ∀ b x, ((![a] : Fin 1 → IVec S16 32) b x).toNat < S12288.size b)
    (lp : (ptS).view.Loads) (lq : (npS).view.Loads) (la : ((gpS).access (.whole S12288)).Stores Finset.univ)
    (K : Prog (TpuEff nD τ sig (Elt F) Λ₀ (.scVector ((L 0).castLE hcore1) ((L 1).castLE hsub1))) α) (Q : α → sProp 𝕄)
    (R : sProp 𝕄)
    (hK : iprop(R ∗ ((ptS).view.loc (thr d L) ↦{fullShare} ptT X d L) ∗ ((npS).view.loc (thr d L) ↦{fullShare} npT X d L)
      ∗ ∃ g, ⌜GpOK X d L k.val (c.val + 1) g⌝ ∗ (gpS).view.loc (thr d L) ↦{fullShare} g)
        ⊢ wp frame (wpE (defs₀ (F := F)) 𝒱₀ (thr d L) none) Set.univ K Q) :
    iprop(R ∗ ((ptS).view.loc (thr d L) ↦{fullShare} ptT X d L) ∗ ((npS).view.loc (thr d L) ↦{fullShare} npT X d L)
      ∗ ∃ g, ⌜GpOK X d L k.val c.val g⌝ ∗ (gpS).view.loc (thr d L) ↦{fullShare} g)
    ⊢ wp frame (wpE (defs₀ (F := F)) 𝒱₀ (thr d L) none) Set.univ
      (do
        have h1 : Pp := (← Prog.lift (TpuEff.assume Pp dp)).down
        let u : Vec F S16 .f32 ← SparseCore.vectorLoadIdx ptS ![p] (ep.mp h1) lp
        have h2 : Pq := (← Prog.lift (TpuEff.assume Pq dq)).down
        let v : Vec F S16 .f32 ← SparseCore.vectorLoadIdx npS ![q] (eq.mp h2) lq
        have h3 : Pa := (← Prog.lift (TpuEff.assume Pa da)).down
        SparseCore.vectorStoreIdx gpS ![a] (subf u v : FVec F S16 .f32) (fun _ => 1#1) false (ea.mp h3) la
        K) Q := by
  have w8 := wid_lt L
  have hp' : Pp := ep.mpr fun b x => match b with
    | 0 => by have := hp x; have := c.isLt; show (p x).toNat < 24576; omega
  have hq' : Pq := eq.mpr fun b x => match b with
    | 0 => by have := hq x; have := c.isLt; have := (posK k x).isLt; show (q x).toNat < 3072; omega
  have ha' : Pa := ea.mpr fun b x => match b with
    | 0 => by have := ha x; have := c.isLt; have := (posK k x).isLt; show (a x).toNat < 12288; omega
  iintro ⟨HR, Hpt, Hnp, %g, %hg, Hgp⟩
  rw [wp_assume_bind d L hp']
  iapply (SparseCore.wp_vectorLoadIdx 𝒱₀ (thr d L) none Set.univ (base := ptS) (S := Finset.univ) (q := fullShare) (Finset.subset_univ _)) $$ Hpt; iintro Hpt
  rw [wp_assume_bind d L hq']
  iapply (SparseCore.wp_vectorLoadIdx 𝒱₀ (thr d L) none Set.univ (base := npS) (S := Finset.univ) (q := fullShare) (Finset.subset_univ _)) $$ Hnp; iintro Hnp
  rw [wp_assume_bind d L ha']
  ihave Hgp' := (Entails.of_eq (pts_gp d L g).symm) $$ Hgp
  iapply (SparseCore.wp_vectorStoreIdx 𝒱₀ (thr d L) none Set.univ (base := gpS)) $$ Hgp'; iintro Hgp'
  ihave Hgp := (Entails.of_eq (pts_gp d L _)) $$ Hgp'
  iapply hK
  isplitl [HR]; · iexact HR
  isplitl [Hpt]; · iexact Hpt
  isplitl [Hnp]; · iexact Hnp
  iexists _
  isplitr
  swap; · iexact Hgp
  ipureintro
  rw [rd_pt, rd_np, rd_gp, wr_gp]
  exact store_step X d L k c g hg a _ _ ha fun x => diff_ok X d L k c p q hp hq _ _ x

/-- One trip of the second loop keeps its invariant. -/
theorem trip2 (X : Opnds F) (hX : InBatch X) (d : Dev nD) (L : grid1.Coords)
    (v1 v18 v24 c8 v25 v36 : BitVec 32) (h25 : v25 = BitVec.ofNat 32 (8192 * (wid L / 8))) (h36 : v36 = BitVec.ofNat 32 (128 * (wid L % 8)))
    (k : Fin k1_t2_loop.trips) (acc : BitVec 32) :
    inv2 X d L k.val acc ⊢ wp frame (wpE (defs₀ (F := F)) 𝒱₀ (thr d L) none) Set.univ
      (k1_t2_body L feM (Memref.isWhole_whole _) ptM (Memref.isWhole_whole _) npM (Memref.isWhole_whole _) ixM (Memref.isWhole_whole _)
        rwM (Memref.isWhole_whole _) gpM (Memref.isWhole_whole _) ixS (Memref.isWhole_whole _) ptS (Memref.isWhole_whole _) npS (Memref.isWhole_whole _)
        rwS (Memref.isWhole_whole _) gpS (Memref.isWhole_whole _) cc1_scratch5 cc1_scoped0 cc1_scoped1 cc1_scoped2 cc1_scoped3 cc1_scoped4 cc1_scoped5 cc1_scoped6
        v1 v18 v24 c8 v25 v36 lanes k acc)
      fun acc' => inv2 X d L (k.val + 1) acc' := by
  subst h25 h36
  unfold k1_t2_body
  rw [k1_part1_eq_skeleton]
  unfold k1_part1_skel inv2
  iintro ⟨Hix, Hpt, Hnp, Hgp⟩
  have w8 := wid_lt L
  iapply (wp_load 𝒱₀ (thr d L) none Set.univ (m := ixS) (S := Finset.univ) (Finset.subset_univ _)) $$ Hix; iintro Hix
  have hv : ∀ x, (ixS).view.readAt (Elt F) (Rect.unit (s := S4096) (k1_off6 k) S16.size (k1_off6_inb k)).toLoadRect (ixT X d L) x = X.ix d (ix1 (posOf L (posK k x))) := load_ix X d L k
  generalize (ixS).view.readAt (Elt F) (Rect.unit (s := S4096) (k1_off6 k) S16.size (k1_off6_inb k)).toLoadRect (ixT X d L) = v47 at hv ⊢
  have f1 := pay1_nat X hX d L k v47 hv
  have f2 := pay2_nat k
  have f3 := fun x => pay3_nat k x (128 * (wid L % 8))
  have l2 : ∀ x, (posK k x).val < 4096 := fun x => (posK k x).isLt
  iapply (coord_step X d L k 0 (k1_pay4 (F := F) (BitVec.ofNat 32 (8192 * (wid L / 8))) v47) (k1_pay5 (BitVec.ofNat 32 (128 * (wid L % 8))) lanes 0#32 1#32 k) (k1_pay7 lanes 0#32 1#32 k)
    (fun x => shift_nat _ _ 0 (f1 x) (by omega)) (fun x => shift_nat _ _ 0 (f3 x) (by have := l2 x; omega)) (fun x => shift_nat _ _ 0 (f2 x) (by have := l2 x; omega))
    _ _ _ (k1_chk1.dec _) (k1_chk2.dec _) (k1_chk3.dec _) Iff.rfl Iff.rfl Iff.rfl (View.loads_vmem h_S24576) (View.loads_vmem h_S3072) (View.stores_vmem_bits_univ h_S12288 rfl)
    _ _ iprop((ixS).view.loc (thr d L) ↦{fullShare} ixT X d L) ?K1) $$ [Hix Hpt Hnp Hgp]
  case K1 =>
    refine coord_step X d L k 1 (k1_pay8 (k1_pay1 (F := F) (BitVec.ofNat 32 (8192 * (wid L / 8))) v47)) (k1_pay9 (k1_pay3 (BitVec.ofNat 32 (128 * (wid L % 8))) lanes 0#32 1#32 k)) (k1_pay11 (k1_pay2 lanes 0#32 1#32 k))
      (fun x => shift_nat _ _ 8192 (f1 x) (by omega)) (fun x => shift_nat _ _ 1024 (f3 x) (by have := l2 x; omega)) (fun x => shift_nat _ _ 4096 (f2 x) (by have := l2 x; omega))
      _ _ _ (k1_chk4.dec _) (k1_chk5.dec _) (k1_chk6.dec _) Iff.rfl Iff.rfl Iff.rfl (View.loads_vmem h_S24576) (View.loads_vmem h_S3072) (View.stores_vmem_bits_univ h_S12288 rfl)
      _ _ iprop((ixS).view.loc (thr d L) ↦{fullShare} ixT X d L) ?_
    refine coord_step X d L k 2 (k1_pay12 (k1_pay1 (F := F) (BitVec.ofNat 32 (8192 * (wid L / 8))) v47)) (k1_pay13 (k1_pay3 (BitVec.ofNat 32 (128 * (wid L % 8))) lanes 0#32 1#32 k)) (k1_pay15 (k1_pay2 lanes 0#32 1#32 k))
      (fun x => shift_nat _ _ 16384 (f1 x) (by omega)) (fun x => shift_nat _ _ 2048 (f3 x) (by have := l2 x; omega)) (fun x => shift_nat _ _ 8192 (f2 x) (by have := l2 x; omega))
      _ _ _ (k1_chk7.dec _) (k1_chk8.dec _) (k1_chk9.dec _) Iff.rfl Iff.rfl Iff.rfl (View.loads_vmem h_S24576) (View.loads_vmem h_S3072) (View.stores_vmem_bits_univ h_S12288 rfl)
      (Pure.pure 0#32) _ iprop((ixS).view.loc (thr d L) ↦{fullShare} ixT X d L) ?_
    iintro ⟨Hix, Hpt, Hnp, %g', %hg', Hgp⟩
    sl_step
    isplitl [Hix]; · iexact Hix
    isplitl [Hpt]; · iexact Hpt
    isplitl [Hnp]; · iexact Hnp
    iexists _
    isplitr
    swap; · iexact Hgp
    ipureintro; exact GpOK.next hg'
  isplitl [Hix]; · iexact Hix
  isplitl [Hpt]; · iexact Hpt
  isplitl [Hnp]; · iexact Hnp
  iexact Hgp

end Cert.Proof.ScI

end
-- ==== Proof.ScTile3I.lean ====
/-
  The whole task of one tile of `KernelIdeal`'s SparseCore gather: the fetches, the two loops and the write-outs of the coordinate differences.
-/
module

public import proofs.«01_k».proof.Proof.ScTile2I

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A star over the numbers below `n + 1`, its first term apart. -/
theorem bigSep_first {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- A separating product over five, written out. -/
theorem bigSep_five (Φ : Fin 5 → sProp 𝕄) : bigSep Finset.univ Φ = iprop(Φ 0 ∗ Φ 1 ∗ Φ 2 ∗ Φ 3 ∗ Φ 4) := by
  rw [bigSep_first, bigSep_first, bigSep_first, bigSep_first, bigSep_univ_of_subsingleton (0 : Fin 1)]
  rfl

/-- A separating product over eight, written out. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_first, bigSep_first, bigSep_first, bigSep_five]
  rfl

/-! ## The tile's semaphores and scratch buffers -/

/-- The semaphores the task uses. -/
def semOf : Fin 8 → DmaSem sig
  | 0 => cc1_scratch5.sem | 1 => cc1_scoped0.sem | 2 => cc1_scoped1.sem | 3 => cc1_scoped2.sem
  | 4 => cc1_scoped3.sem | 5 => cc1_scoped4.sem | 6 => cc1_scoped5.sem | 7 => cc1_scoped6.sem
/-- The tile's eight semaphores are distinct. -/
theorem semOf_inj : Function.Injective semOf := by decide
/-- The tile's semaphores are scoped. -/
theorem semOf_scoped : ∀ i, (SemLoc.dma (semOf i) : SemLoc sig).isScoped .scVector = true := by decide

/-- The tile's eight semaphores, as cells. -/
def cellE (d : Dev nD) (L : grid1.Coords) : Fin 8 ↪ GSem nD τ sig :=
  ⟨fun i => (thr d L, SemLoc.dma (semOf i)), fun i j h => semOf_inj (SemLoc.dma.inj (Prod.mk.inj h).2)⟩

/-- The tile's semaphores: the eight the task uses and the rest. -/
theorem ownSems0_V (d : Dev nD) (L : grid1.Coords) :
    (ownSems0 (thr d L) : sProp 𝕄)
      = iprop((semVal (thr d L, .dma cc1_scratch5.sem) 0 ∗ semVal (thr d L, .dma cc1_scoped0.sem) 0 ∗ semVal (thr d L, .dma cc1_scoped1.sem) 0
          ∗ semVal (thr d L, .dma cc1_scoped2.sem) 0 ∗ semVal (thr d L, .dma cc1_scoped3.sem) 0 ∗ semVal (thr d L, .dma cc1_scoped4.sem) 0
          ∗ semVal (thr d L, .dma cc1_scoped5.sem) 0 ∗ semVal (thr d L, .dma cc1_scoped6.sem) 0)
          ∗ bigSep (ownCells (thr d L) \ Finset.univ.map (cellE d L)) fun g => semVal g 0) := by
  unfold SparseCore.Cfg.ownSems0
  rw [SparseCore.bigSep_sdiff_split' (t := Finset.univ.map (cellE d L)) (fun g hg => by
    obtain ⟨i, -, rfl⟩ := Finset.mem_map.mp hg
    exact mem_ownCells.mpr ⟨rfl, semOf_scoped i⟩)]
  rw [bigSep_map, bigSep_eight]
  rfl

/-- The task's scratch buffers. -/
def scrOf : Fin 5 → Ref sig .scVector
  | 0 => cc1_scratch0 | 1 => cc1_scratch1 | 2 => cc1_scratch2 | 3 => cc1_scratch3 | 4 => cc1_scratch4
/-- The tile's five scratch arrays are distinct. -/
theorem scrOf_inj : Function.Injective scrOf := by decide

/-- The tile's five scratch arrays, as references. -/
def refE (L : grid1.Coords) : Fin 5 ↪ DevRef τ sig :=
  ⟨fun i => (Proc.scVector (cV L) (jV L)).devRef (scrOf i), fun _ _ h => scrOf_inj (Proc.devRef_injective _ h)⟩

/-- The tile's own buffers: the task's five scratch buffers and the rest. -/
theorem ownBufs_V (d : Dev nD) (L : grid1.Coords) :
    (ownBufs (thr d L) : sProp 𝕄)
      = iprop(((∃ f, (ixS).view.loc (thr d L) ↦{fullShare} f) ∗ (∃ f, (ptS).view.loc (thr d L) ↦{fullShare} f) ∗ (∃ f, (npS).view.loc (thr d L) ↦{fullShare} f)
          ∗ (∃ f, (rwS).view.loc (thr d L) ↦{fullShare} f) ∗ (∃ f, (gpS).view.loc (thr d L) ↦{fullShare} f))
          ∗ bigSep (ownRefs (τ := τ) (.scVector (cV L) (jV L)) \ Finset.univ.map (refE L)) fun b => iprop(∃ f, ((d, b) : Loc nD τ sig) ↦{fullShare} f)) := by
  unfold SparseCore.Cfg.ownBufs
  rw [show ownRefs (τ := τ) (thr d L).2 = ownRefs (τ := τ) (.scVector (cV L) (jV L)) from rfl]
  rw [SparseCore.bigSep_sdiff_split' (t := Finset.univ.map (refE L)) (fun b hb => by
    obtain ⟨i, -, rfl⟩ := Finset.mem_map.mp hb
    exact SparseCore.Cfg.mem_ownRefs_of_owner (p := Proc.scVector (cV L) (jV L)) (by match i with | 0 => rfl | 1 => rfl | 2 => rfl | 3 => rfl | 4 => rfl))]
  rw [bigSep_map, bigSep_five]
  rfl

/-! ## The scalars -/

/-- A tile's points begin at its batch's. -/
theorem off2_val : ∀ L : grid1.Coords, k1_off2 L 0 = 24576 * (wid L / 8) := by decide +kernel
/-- A tile's centres begin at its batch's. -/
theorem off3_val : ∀ L : grid1.Coords, k1_off3 L 0 = 3072 * (wid L / 8) := by decide +kernel
/-- The first loop makes 32 trips. -/
theorem t1_trips : k1_t1_loop.trips = 32 := by decide +kernel
/-- The second loop makes 256 trips. -/
theorem t2_trips : k1_t2_loop.trips = 256 := by decide +kernel

/-! ## The write-outs -/

/-- The part of the second result that holds the tile's elements of coordinate `c`. -/
abbrev gpB (L : grid1.Coords) (c : Fin 3) : Memref sig .scVector .hbm S4096 .f32 :=
  (gpM).slice (Rect.unit (s := S393216) (k1_off7 L (BitVec.ofNat 32 (131072 * c.val))) S4096.size (k1_off7_inb L c)) (fun _ => rfl)

/-- A tile's coordinates of one axis begin at its first position in the axis's part. -/
theorem off7_val (L : grid1.Coords) (c : Fin 3) : k1_off7 L (BitVec.ofNat 32 (131072 * c.val)) 0 = 131072 * c.val + 4096 * wid L := by
  rw [k1_off7_eq]; show 131072 * c.val + 8192 * (L 1).val + 4096 * (L 0).val = _; unfold wid; omega

/-- The cells of the block that the tile writes of one axis. -/
theorem mem_gpB (L : grid1.Coords) (c : Fin 3) (x : S393216.Idx) :
    x ∈ (gpB L c).view.set ↔ 131072 * c.val + 4096 * wid L ≤ (x 0).val ∧ (x 0).val < 131072 * c.val + 4096 * wid L + 4096 := by
  have e : (gpB L c).view.set = (Rect.unit (s := S393216) (k1_off7 L (BitVec.ofNat 32 (131072 * c.val))) S4096.size (k1_off7_inb L c)).set := by
    show ((View.whole (main_v18_1_scv : Ref sig .scVector)).slice _).set = _
    rw [View.set_slice]; exact Finset.map_refl
  rw [e, Rect.mem_set_unit]
  constructor
  · intro h; have := h 0; rw [off7_val] at this; exact this
  · intro h a
    match a with
    | 0 => rw [off7_val]; exact h

/-- Where a position of that block lies in the result. -/
theorem gpB_emb (L : grid1.Coords) (c : Fin 3) (y : S4096.Idx) : (((gpB L c).view.emb y) 0).val = 131072 * c.val + 4096 * wid L + (y 0).val := by
  rw [← off7_val]
  show k1_off7 L (BitVec.ofNat 32 (131072 * c.val)) 0 + 1 * (y 0).val = _
  omega

/-- The first axis's block is among the tile's cells. -/
theorem gpB0_sub (L : grid1.Coords) : (gpB L 0).view.set ⊆ gpSet (wid L) := by
  intro x hx
  rw [mem_gpB] at hx
  have := wid_lt L
  simp only [gpSet, Finset.mem_filter, Finset.mem_univ, true_and]
  simp only [show (0 : Fin 3).val = 0 from rfl] at hx
  omega
/-- The second axis's block is among the tile's cells that remain. -/
theorem gpB1_sub (L : grid1.Coords) : (gpB L 1).view.set ⊆ gpSet (wid L) \ (gpB L 0).view.set := by
  intro x hx
  rw [mem_gpB] at hx
  have := wid_lt L
  rw [Finset.mem_sdiff, mem_gpB]
  simp only [gpSet, Finset.mem_filter, Finset.mem_univ, true_and]
  simp only [show (0 : Fin 3).val = 0 from rfl, show (1 : Fin 3).val = 1 from rfl] at hx ⊢
  omega
/-- What remains is the third axis's block. -/
theorem gpB2_eq (L : grid1.Coords) : (gpSet (wid L) \ (gpB L 0).view.set) \ (gpB L 1).view.set = (gpB L 2).view.set := by
  ext x
  have := wid_lt L
  rw [Finset.mem_sdiff, Finset.mem_sdiff, mem_gpB, mem_gpB, mem_gpB]
  have hx : (x 0).val < 393216 := (x 0).isLt
  simp only [gpSet, Finset.mem_filter, Finset.mem_univ, true_and]
  simp only [show (0 : Fin 3).val = 0 from rfl, show (1 : Fin 3).val = 1 from rfl, show (2 : Fin 3).val = 2 from rfl]
  omega

/-- The coordinates' value at a position of a tile's block. -/
theorem gpV_at (X : Opnds F) (d : Dev nD) (L : grid1.Coords) (c : Fin 3) (a : Fin 4096) (x : S393216.Idx) (hx : (x 0).val = 131072 * c.val + 4096 * wid L + a.val) :
    gpV X d x = gpAt X d c (posOf L a) := by
  have h1 : (x 0).val / 131072 = c.val := by have := wid_lt L; have := a.isLt; omega
  have h2 : (x 0).val % 131072 = (posOf L a).val := by have := wid_lt L; have := a.isLt; simp only [posOf]; omega
  unfold gpV
  exact congrArg₂ (gpAt X d) (Fin.ext h1) (Fin.ext h2)

/-- A slice of the second result written whole holds what was written. -/
theorem slice_written (off : Fin 1 → ℕ) (inb : ∀ a, off a + S4096.size a ≤ S393216.size a) (f : S393216.Idx → F .f32) (pay : S4096.Idx → F .f32) (y : S4096.Idx) :
    ((gpM).slice (Rect.unit (s := S393216) off S4096.size inb) (fun _ => rfl)).view.writes (Elt F) f [⟨Rect.whole S4096, pay⟩]
      (((gpM).slice (Rect.unit (s := S393216) off S4096.size inb) (fun _ => rfl)).view.emb y) = pay y := by
  have h := read_writes_whole ((gpM).slice (Rect.unit (s := S393216) off S4096.size inb) (fun _ => rfl)).view f pay y
  rw [View.read_apply] at h
  exact (cast_eq _ _).symm.trans h

/-- A written part holds the result's differences. -/
theorem band_ok (X : Opnds F) (d : Dev nD) (L : grid1.Coords) (c : Fin 3) (f : S393216.Idx → F .f32) (pay : S4096.Idx → F .f32)
    (hp : ∀ y : S4096.Idx, pay y = gpAt X d c (posOf L (y 0))) (x : S393216.Idx) (hx : x ∈ (gpB L c).view.set) :
    (gpB L c).view.writes (Elt F) f [⟨Rect.whole S4096, pay⟩] x = gpV X d x := by
  obtain ⟨y, -, rfl⟩ := Finset.mem_map.mp hx
  have e : gpV X d ((gpB L c).view.emb y) = pay y := (gpV_at X d L c (y 0) _ (gpB_emb L c y)).trans (hp y).symm
  refine Eq.trans ?_ e.symm
  exact slice_written (k1_off7 L (BitVec.ofNat 32 (131072 * c.val))) (k1_off7_inb L c) f pay y

/-- The rows written by the end are the result's. -/
theorem rows_done (X : Opnds F) (d : Dev nD) (L : grid1.Coords) (f : S131072x128.Idx → F .f32) (hf : RowsOK X d L k1_t1_loop.trips f) :
    ∀ x ∈ rwSet (wid L), f x = rowsV X d x := by
  intro x hx
  refine hf x hx ?_
  rw [t1_trips]
  simp only [rwSet, Finset.mem_filter, Finset.mem_univ, true_and] at hx
  omega

end Cert.Proof.ScI

end
-- ==== Proof.ScTile4I.lean ====
/-
  The task of one tile of `KernelIdeal`'s SparseCore gather, run: what it holds at its end.
-/
module

public import proofs.«01_k».proof.Proof.ScTile3I

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev gpB0 (L : grid1.Coords) : Memref sig .scVector .hbm S4096 .f32 := (gpM).slice (Rect.unit (s := S393216) (k1_off7 L 0#32) S4096.size (k1_off7_inb L 0)) (fun _ => rfl)
abbrev gpB1 (L : grid1.Coords) : Memref sig .scVector .hbm S4096 .f32 := (gpM).slice (Rect.unit (s := S393216) (k1_off7 L 131072#32) S4096.size (k1_off7_inb L 1)) (fun _ => rfl)
abbrev gpB2 (L : grid1.Coords) : Memref sig .scVector .hbm S4096 .f32 := (gpM).slice (Rect.unit (s := S393216) (k1_off7 L 262144#32) S4096.size (k1_off7_inb L 2)) (fun _ => rfl)

/-- What the write-out of coordinate `c` reads. -/
theorem rd_src (g : S12288.Idx → F .f32) (c : Fin 3) (off : Fin 1 → ℕ) (ho : off 0 = 4096 * c.val) (inb : ∀ a, off a + S4096.size a ≤ S12288.size a) (y : S4096.Idx) :
    ((gpS).slice (Rect.unit (s := S12288) off S4096.size inb) (fun _ => rfl)).view.read (Elt F) g y
      = g (ix1 ⟨4096 * c.val + (y 0).val, by have h : (y 0).val < 4096 := (y 0).isLt; have := c.isLt; omega⟩) := by
  rw [View.read_apply]
  refine (cast_eq _ _).trans (congrArg g (funext fun a => ?_))
  match a with
  | 0 =>
    refine Fin.ext ?_
    show off 0 + 1 * (y 0).val = 4096 * c.val + (y 0).val
    omega

/-- The payload of a write-out is the result's. -/
theorem pay_ok (X : Opnds F) (d : Dev nD) (L : grid1.Coords) (g : S12288.Idx → F .f32) (hg : GpOK X d L k1_t2_loop.trips 0 g) (c : Fin 3) (off : Fin 1 → ℕ)
    (ho : off 0 = 4096 * c.val) (inb : ∀ a, off a + S4096.size a ≤ S12288.size a) (y : S4096.Idx) :
    ((gpS).slice (Rect.unit (s := S12288) off S4096.size inb) (fun _ => rfl)).view.read (Elt F) g y = gpAt X d c (posOf L (y 0)) := by
  rw [rd_src g c off ho inb y]
  have hy : (y 0).val < 4096 := (y 0).isLt
  exact hg c (y 0) (.inl (by rw [t2_trips]; omega))

/-- What the fetch of the index words leaves. -/
theorem fetch_ix (X : Opnds F) (d : Dev nD) (L : grid1.Coords) (f : S4096.Idx → BitVec 32) :
    (ixS).view.write (Elt F) f (((ixM).slice (Rect.unit (s := S131072) (k1_off1 L) S4096.size (k1_off1_inb L)) (fun _ => rfl)).view.read (Elt F) (X.ix d)) Finset.univ = ixT X d L := by
  refine (View.write_whole_univ _ _ _).trans (funext fun y => ?_)
  rw [View.read_apply]
  refine (cast_eq _ _).trans (congrArg (X.ix d) (funext fun a => ?_))
  match a with
  | 0 =>
    refine Fin.ext ?_
    show k1_off1 L 0 + 1 * (y 0).val = 4096 * wid L + (y 0).val
    rw [k1_off1_eq]; show 8192 * (L 1).val + 4096 * (L 0).val + 1 * (y 0).val = _; unfold wid; omega

/-- What the fetch of the points leaves. -/
theorem fetch_pt (X : Opnds F) (d : Dev nD) (L : grid1.Coords) (f : S24576.Idx → F .f32) :
    (ptS).view.write (Elt F) f (((ptM).slice (Rect.unit (s := S98304) (k1_off2 L) S24576.size (k1_off2_inb L)) (fun _ => rfl)).view.read (Elt F) (X.pt d)) Finset.univ = ptT X d L := by
  refine (View.write_whole_univ _ _ _).trans (funext fun y => ?_)
  rw [View.read_apply]
  refine (cast_eq _ _).trans (congrArg (X.pt d) (funext fun a => ?_))
  match a with
  | 0 =>
    refine Fin.ext ?_
    show k1_off2 L 0 + 1 * (y 0).val = 24576 * (wid L / 8) + (y 0).val
    rw [off2_val]; omega

/-- What the fetch of the query points leaves. -/
theorem fetch_np (X : Opnds F) (d : Dev nD) (L : grid1.Coords) (f : S3072.Idx → F .f32) :
    (npS).view.write (Elt F) f (((npM).slice (Rect.unit (s := S12288) (k1_off3 L) S3072.size (k1_off3_inb L)) (fun _ => rfl)).view.read (Elt F) (X.np d)) Finset.univ = npT X d L := by
  refine (View.write_whole_univ _ _ _).trans (funext fun y => ?_)
  rw [View.read_apply]
  refine (cast_eq _ _).trans (congrArg (X.np d) (funext fun a => ?_))
  match a with
  | 0 =>
    refine Fin.ext ?_
    show k1_off3 L 0 + 1 * (y 0).val = 3072 * (wid L / 8) + (y 0).val
    rw [off3_val]; omega

/-- Recording one more wait of the default tag keeps every recorded wait either old or of that tag. -/
theorem mem_ins {W W' : Waits sig (HIx 1)} (s : SemLoc sig) (h : ∀ p ∈ W', p ∈ W ∨ p.2 = none) : ∀ p ∈ insert (s, (default : HIx 1)) W', p ∈ W ∨ p.2 = none := by
  intro p hp
  rcases Finset.mem_insert.mp hp with hp | hp
  · exact .inr (hp ▸ rfl)
  · exact h p hp

set_option maxHeartbeats 2000000 in
/-- The task of one tile: from its shares of the operands and its elements of the two results at any contents, it ends with
    the operands unchanged and its elements of the results filled in. -/
theorem tile_body (X : Opnds F) (hX : InBatch X) (d : Dev nD) (L : grid1.Coords) (hF : (K (F := F)).Facts) (O : CellTallies nD τ sig (HIx 1)) (W : Waits sig (HIx 1)) (hO : ∀ g, O g none = 0) :
    iprop(levAts (K (F := F)).L (K (F := F)).lev ∗ emp
        ∗ (opPts X d (sh L) ∗ (∃ f, rwLoc d ↦[rwSet (wid L)]{fullShare} f) ∗ (∃ f, gpLoc d ↦[gpSet (wid L)]{fullShare} f))
        ∗ scopedBufs (thr d L) ∗ scopedSems0 (thr d L) ∗ owes (thr d L) O W)
      ⊢ wp frame (wpE (defs₀ (F := F)) 𝒱₀ (thr d L) none) Set.univ
          (cc1__gather_body L feM (Memref.isWhole_whole _) ptM (Memref.isWhole_whole _) npM (Memref.isWhole_whole _) ixM (Memref.isWhole_whole _)
            rwM (Memref.isWhole_whole _) gpM (Memref.isWhole_whole _) ixS (Memref.isWhole_whole _) ptS (Memref.isWhole_whole _) npS (Memref.isWhole_whole _)
            rwS (Memref.isWhole_whole _) gpS (Memref.isWhole_whole _) cc1_scratch5 cc1_scoped0 cc1_scoped1 cc1_scoped2 cc1_scoped3 cc1_scoped4 cc1_scoped5 cc1_scoped6)
          fun _ => iprop((opPts X d (sh L) ∗ (rwLoc d ↦[rwSet (wid L)]{fullShare} rowsV X d) ∗ (gpLoc d ↦[gpSet (wid L)]{fullShare} gpV X d))
            ∗ scopedBufs (thr d L) ∗ scopedSems0 (thr d L)
            ∗ ∃ W', ⌜∀ p ∈ W', p ∈ W ∨ p.2 = none⌝ ∗ owes (thr d L) O W') := by
  rw [cc1__gather_body_eq_skeleton]; unfold cc1__gather_body_skel
  rw [k1_part2_eq_skeleton, k1_part3_eq_skeleton]; unfold k1_part2_skel k1_part3_skel
  rw [(K (F := F)).scopedBufs_V hF d (cV L) (jV L), SparseCore.Cfg.scopedSems0_V (Val := Elt F) d (cV L) (jV L), ownSems0_V, ownBufs_V]
  iintro ⟨#Hlv, -, ⟨⟨Hfe0, Hpt0, Hnp0, Hix0⟩, ⟨%fr0, Hrw0⟩, ⟨%fg0, Hgp0⟩⟩, ⟨⟨⟨%bi, Hbi⟩, ⟨%bp, Hbp⟩, ⟨%bn, Hbn⟩, ⟨%br, Hbr⟩, ⟨%bg, Hbg⟩⟩, Hbufs⟩,
    ⟨⟨Hs5, Hr0, Hr1, Hr2, Hr3, Hr4, Hr5, Hr6⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hfe := (Entails.of_eq (show (feLoc d ↦{sh L} X.fe d : sProp 𝕄) = ((feM).view.loc (thr d L) ↦{sh L} X.fe d) from rfl)) $$ Hfe0
  ihave Hpt := (Entails.of_eq (show (ptLoc d ↦{sh L} X.pt d : sProp 𝕄) = ((ptM).view.loc (thr d L) ↦{sh L} X.pt d) from rfl)) $$ Hpt0
  ihave Hnp := (Entails.of_eq (show (npLoc d ↦{sh L} X.np d : sProp 𝕄) = ((npM).view.loc (thr d L) ↦{sh L} X.np d) from rfl)) $$ Hnp0
  ihave Hix := (Entails.of_eq (show (ixLoc d ↦{sh L} X.ix d : sProp 𝕄) = ((ixM).view.loc (thr d L) ↦{sh L} X.ix d) from rfl)) $$ Hix0
  ihave Hrw := (Entails.of_eq (show (rwLoc d ↦[rwSet (wid L)]{fullShare} fr0 : sProp 𝕄) = ((rwM).view.loc (thr d L) ↦[rwSet (wid L)]{fullShare} fr0) from rfl)) $$ Hrw0
  ihave Hgp := (Entails.of_eq (show (gpLoc d ↦[gpSet (wid L)]{fullShare} fg0 : sProp 𝕄) = ((gpM).view.loc (thr d L) ↦[gpSet (wid L)]{fullShare} fg0) from rfl)) $$ Hgp0
  sl_exec
  have h25 : ∀ L : grid1.Coords, tile_body.sl.v25 L = BitVec.ofNat 32 (8192 * (wid L / 8)) := by decide +kernel
  have h36 : ∀ L : grid1.Coords, tile_body.sl.v36 L = BitVec.ofNat 32 (128 * (wid L % 8)) := by decide +kernel
  ihave Hbi := (Entails.of_eq (congrArg (fun f => ((ixS).view.loc (thr d L) ↦{fullShare} f : sProp 𝕄)) (show View.write (Elt F) (ixS).view bi (tile_body.sl.dma0 X d L) Finset.univ = ixT X d L from fetch_ix X d L bi))) $$ Hbi
  ihave Hbp := (Entails.of_eq (congrArg (fun f => ((ptS).view.loc (thr d L) ↦{fullShare} f : sProp 𝕄)) (show View.write (Elt F) (ptS).view bp (tile_body.sl.dma0_1 X d L) Finset.univ = ptT X d L from fetch_pt X d L bp))) $$ Hbp
  ihave Hbn := (Entails.of_eq (congrArg (fun f => ((npS).view.loc (thr d L) ↦{fullShare} f : sProp 𝕄)) (show View.write (Elt F) (npS).view bn (tile_body.sl.dma0_2 X d L) Finset.univ = npT X d L from fetch_np X d L bn))) $$ Hbn
  rw [bind_assoc]
  sl_for (inv1 X d L O W) $$ [Hmw Hfe Hbi Hbr Hrw Hs5 Hr3 HO]
  case region => exact fun k acc => trip1 X hX d L O W _ _ _ _ k acc
  · unfold inv1
    isplitl [Hmw]; · iexact Hmw
    isplitl [Hfe]; · iexact Hfe
    isplitl [Hbi]; · iexact Hbi
    isplitl [Hbr]; · iexists _; iexact Hbr
    isplitl [Hrw]
    · iexists fr0
      isplitr
      swap; · iexact Hrw
      ipureintro
      intro x hx hlt
      simp only [rwSet, Finset.mem_filter, Finset.mem_univ, true_and] at hx
      omega
    isplitl [Hs5]; · iexact Hs5
    isplitl [Hr3]; · iexact Hr3
    iexists _; isplitr
    swap; · iexact HO
    ipureintro
    exact mem_ins _ (mem_ins _ (mem_ins _ fun p hp => .inl hp))
  iintro %_ HI
  unfold inv1
  icases HI with ⟨Hmw, Hfe, Hbi, Hbr, ⟨%fr1, %hfr1, Hrw⟩, Hs5, Hr3, %W1, %hW1, HO⟩
  unfold tile_body.sl.prog.cont_1
  rw [bind_assoc]
  sl_for (inv2 X d L) $$ [Hbi Hbp Hbn Hbg]
  case region => exact fun k acc => trip2 X hX d L _ _ _ _ _ _ (h25 L) (h36 L) k acc
  · unfold inv2
    isplitl [Hbi]; · iexact Hbi
    isplitl [Hbp]; · iexact Hbp
    isplitl [Hbn]; · iexact Hbn
    iexists bg
    isplitr
    swap; · iexact Hbg
    ipureintro
    intro c a ha
    omega
  iintro %_ HI
  unfold inv2
  icases HI with ⟨Hbi, Hbp, Hbn, %g, %hg, Hbg⟩
  ihave Hsp := (pointsTo_split_subset (ℓ := (gpM).view.loc (thr d L)) (q := fullShare) (f := fg0) (gpB0_sub L)).1 $$ Hgp
  icases Hsp with ⟨Hg0, Hgr⟩
  ihave Hsp := (pointsTo_split_subset (ℓ := (gpM).view.loc (thr d L)) (q := fullShare) (f := fg0) (gpB1_sub L)).1 $$ Hgr
  icases Hsp with ⟨Hg1, Hgr⟩
  ihave Hg0 := (Entails.of_eq (show ((gpM).view.loc (thr d L) ↦[(gpB L 0).view.set]{fullShare} fg0 : sProp 𝕄) = ((gpB0 L).view.loc (thr d L) ↦[(gpB0 L).view.set]{fullShare} fg0) from rfl)) $$ Hg0
  ihave Hg1 := (Entails.of_eq (show ((gpM).view.loc (thr d L) ↦[(gpB L 1).view.set]{fullShare} fg0 : sProp 𝕄) = ((gpB1 L).view.loc (thr d L) ↦[(gpB1 L).view.set]{fullShare} fg0) from rfl)) $$ Hg1
  ihave Hg2 := (Entails.of_eq (show ((gpM).view.loc (thr d L) ↦[(gpSet (wid L) \ (gpB L 0).view.set) \ (gpB L 1).view.set]{fullShare} fg0 : sProp 𝕄) = ((gpB2 L).view.loc (thr d L) ↦[(gpB2 L).view.set]{fullShare} fg0)
    from congrArg (fun S => ((gpM).view.loc (thr d L) ↦[S]{fullShare} fg0 : sProp 𝕄)) (gpB2_eq L))) $$ Hgr
  sl_exec (disch := exact View.amount_pos _ _ (show 0 < S4096.numel by decide))
  ihave Hg0 := (Entails.of_eq (show ((gpB0 L).view.loc (thr d L) ↦[(gpB0 L).view.set]{fullShare} (gpB0 L).view.writes (Elt F) fg0 [⟨Rect.whole S4096, tile_body.sl.dma0_3 g⟩] : sProp 𝕄)
      = (gpLoc d ↦[(gpB L 0).view.set]{fullShare} gpV X d)
    from pointsTo_congr (ℓ := gpLoc d) (q := fullShare) (band_ok X d L 0 fg0 (tile_body.sl.dma0_3 g) (pay_ok X d L g hg 0 _ rfl _)))) $$ Hg0
  ihave Hg1 := (Entails.of_eq (show ((gpB1 L).view.loc (thr d L) ↦[(gpB1 L).view.set]{fullShare} (gpB1 L).view.writes (Elt F) fg0 [⟨Rect.whole S4096, tile_body.sl.dma0_4 g⟩] : sProp 𝕄)
      = (gpLoc d ↦[(gpB L 1).view.set]{fullShare} gpV X d)
    from pointsTo_congr (ℓ := gpLoc d) (q := fullShare) (band_ok X d L 1 fg0 (tile_body.sl.dma0_4 g) (pay_ok X d L g hg 1 _ rfl _)))) $$ Hg1
  ihave Hg2 := (Entails.of_eq (show ((gpB2 L).view.loc (thr d L) ↦[(gpB2 L).view.set]{fullShare} (gpB2 L).view.writes (Elt F) fg0 [⟨Rect.whole S4096, tile_body.sl.dma0_5 g⟩] : sProp 𝕄)
      = (gpLoc d ↦[(gpSet (wid L) \ (gpB L 0).view.set) \ (gpB L 1).view.set]{fullShare} gpV X d)
    from (pointsTo_congr (ℓ := gpLoc d) (q := fullShare) (band_ok X d L 2 fg0 (tile_body.sl.dma0_5 g) (pay_ok X d L g hg 2 _ rfl _))).trans
      (congrArg (fun S => (gpLoc d ↦[S]{fullShare} gpV X d : sProp 𝕄)) (gpB2_eq L).symm))) $$ Hg2
  ihave Hgr := (pointsTo_split_subset (ℓ := gpLoc d) (q := fullShare) (f := gpV X d) (gpB1_sub L)).2 $$ [Hg1 Hg2]
  · isplitl [Hg1]; · iexact Hg1
    iexact Hg2
  ihave Hgp := (pointsTo_split_subset (ℓ := gpLoc d) (q := fullShare) (f := gpV X d) (gpB0_sub L)).2 $$ [Hg0 Hgr]
  · isplitl [Hg0]; · iexact Hg0
    iexact Hgr
  ihave Hrw := (Entails.of_eq (show ((rwM).view.loc (thr d L) ↦[rwSet (wid L)]{fullShare} fr1 : sProp 𝕄) = (rwLoc d ↦[rwSet (wid L)]{fullShare} rowsV X d)
    from pointsTo_congr (ℓ := rwLoc d) (q := fullShare) (rows_done X d L fr1 hfr1))) $$ Hrw
  sl_step
  isplitl [Hix Hpt Hnp Hfe Hrw Hgp]
  · isplitl [Hix Hpt Hnp Hfe]
    · isplitl [Hfe]; · iexact Hfe
      isplitl [Hpt]; · iexact Hpt
      isplitl [Hnp]; · iexact Hnp
      iexact Hix
    isplitl [Hrw]; · iexact Hrw
    iexact Hgp
  isplitl [Hbi Hbp Hbn Hbr Hbg Hbufs]
  · isplitr [Hbufs]
    · isplitl [Hbi]; · iexists _; iexact Hbi
      isplitl [Hbp]; · iexists _; iexact Hbp
      isplitl [Hbn]; · iexists _; iexact Hbn
      isplitl [Hbr]; · iexact Hbr
      iexists _; iexact Hbg
    iexact Hbufs
  isplitr [HO]
  · isplitr [Hsems]
    · isplitl [Hs5]; · iexact Hs5
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact Hr6
    iexact Hsems
  iexists _; isplitr
  swap; · iexact HO
  ipureintro
  exact mem_ins _ (mem_ins _ (mem_ins _ hW1))

end Cert.Proof.ScI

end
-- ==== Proof.Net.lean ====
/-
  The first kernel's selection as a program over any height: 32 rows of keys with their positions, a compare-exchange stage
  on rows (slices, one compare, four selects, two concatenations), the sort of the rows by 15 such stages, and the merges that
  halve the number of columns, each a select against the other half's rows in reverse and 5 stages.
-/
module

public import Idealize.ShloMosaic.PureOps.ShapeOps
public import Idealize.ShloMosaic.PureOps.Contract
public import Idealize.ShloMosaic.PureOps.Vector
public import Idealize.ShloMosaic.Lib.Pipeline.Value

@[expose] public section

noncomputable section

namespace Cert.Proof.Net

open Idealize.ShloMosaic

variable {F : FTy → Type} [FloatOps F]

/-- `l` rows of `t` columns in each of the 128 lanes. -/
abbrev S3 (l t : ℕ) : Shape := ⟨3, ![l, t, 128]⟩

/-- Which of two entries comes first: the lesser key, or among equal keys the lesser position. -/
def firstOf {s : Shape} (av bv : FVec F s .f32) (ai bi : IVec s 32) : IVec s 1 :=
  ori (cmpf .olt av bv) (andi (cmpf .oeq av bv) (cmpi .slt ai bi))

/-- A block of `l'` rows and `t'` columns is inside. -/
theorem slices_S3 {l t l' t' a b : ℕ} (h : a + l' ≤ l) (h' : b + t' ≤ t) : (S3 l t).Slices ![a, b, 0] (S3 l' t') :=
  ⟨rfl, fun x => by match x with
    | ⟨0, _⟩ => exact h
    | ⟨1, _⟩ => exact h'
    | ⟨2, _⟩ => exact (by omega : 0 + 128 ≤ 128)⟩

/-- The compare's outcome, turned over where the block descends. -/
def turned {s : Shape} (up : Bool) (c : IVec s 1) : IVec s 1 :=
  match up with
  | true => c
  | false => xori c (constantI s 1 1#1)

/-- The exchanged keys of the `n` blocks of `2 * s` rows from row `off` on. -/
def piecesV (s t : ℕ) (up : ℕ → Bool) (v : FVec F (S3 32 t) .f32) (i : IVec (S3 32 t) 32) :
    (n off : ℕ) → off + n * (2 * s) ≤ 32 → List ((s : Shape) × (FVec F s .f32))
  | 0, _, _ => []
  | n + 1, off, h =>
    have h1 : off + s ≤ 32 := by rw [Nat.succ_mul] at h; omega
    have h2 : off + s + s ≤ 32 := by rw [Nat.succ_mul] at h; omega
    ⟨S3 s t, select (turned (up off) (firstOf (extractStridedSlice (S3 s t) ![off, 0, 0] v (slices_S3 h1 (Nat.zero_add t).le))
        (extractStridedSlice (S3 s t) ![off + s, 0, 0] v (slices_S3 h2 (Nat.zero_add t).le))
        (extractStridedSlice (S3 s t) ![off, 0, 0] i (slices_S3 h1 (Nat.zero_add t).le))
        (extractStridedSlice (S3 s t) ![off + s, 0, 0] i (slices_S3 h2 (Nat.zero_add t).le))))
      (extractStridedSlice (S3 s t) ![off, 0, 0] v (slices_S3 h1 (Nat.zero_add t).le))
      (extractStridedSlice (S3 s t) ![off + s, 0, 0] v (slices_S3 h2 (Nat.zero_add t).le))⟩ ::
    ⟨S3 s t, select (turned (up off) (firstOf (extractStridedSlice (S3 s t) ![off, 0, 0] v (slices_S3 h1 (Nat.zero_add t).le))
        (extractStridedSlice (S3 s t) ![off + s, 0, 0] v (slices_S3 h2 (Nat.zero_add t).le))
        (extractStridedSlice (S3 s t) ![off, 0, 0] i (slices_S3 h1 (Nat.zero_add t).le))
        (extractStridedSlice (S3 s t) ![off + s, 0, 0] i (slices_S3 h2 (Nat.zero_add t).le))))
      (extractStridedSlice (S3 s t) ![off + s, 0, 0] v (slices_S3 h2 (Nat.zero_add t).le))
      (extractStridedSlice (S3 s t) ![off, 0, 0] v (slices_S3 h1 (Nat.zero_add t).le))⟩ ::
    piecesV s t up v i n (off + 2 * s) (by rw [Nat.succ_mul] at h; omega)

/-- The exchanged positions of the `n` blocks of `2 * s` rows from row `off` on. -/
def piecesI (s t : ℕ) (up : ℕ → Bool) (v : FVec F (S3 32 t) .f32) (i : IVec (S3 32 t) 32) :
    (n off : ℕ) → off + n * (2 * s) ≤ 32 → List ((s : Shape) × (IVec s 32))
  | 0, _, _ => []
  | n + 1, off, h =>
    have h1 : off + s ≤ 32 := by rw [Nat.succ_mul] at h; omega
    have h2 : off + s + s ≤ 32 := by rw [Nat.succ_mul] at h; omega
    ⟨S3 s t, select (turned (up off) (firstOf (extractStridedSlice (S3 s t) ![off, 0, 0] v (slices_S3 h1 (Nat.zero_add t).le))
        (extractStridedSlice (S3 s t) ![off + s, 0, 0] v (slices_S3 h2 (Nat.zero_add t).le))
        (extractStridedSlice (S3 s t) ![off, 0, 0] i (slices_S3 h1 (Nat.zero_add t).le))
        (extractStridedSlice (S3 s t) ![off + s, 0, 0] i (slices_S3 h2 (Nat.zero_add t).le))))
      (extractStridedSlice (S3 s t) ![off, 0, 0] i (slices_S3 h1 (Nat.zero_add t).le))
      (extractStridedSlice (S3 s t) ![off + s, 0, 0] i (slices_S3 h2 (Nat.zero_add t).le))⟩ ::
    ⟨S3 s t, select (turned (up off) (firstOf (extractStridedSlice (S3 s t) ![off, 0, 0] v (slices_S3 h1 (Nat.zero_add t).le))
        (extractStridedSlice (S3 s t) ![off + s, 0, 0] v (slices_S3 h2 (Nat.zero_add t).le))
        (extractStridedSlice (S3 s t) ![off, 0, 0] i (slices_S3 h1 (Nat.zero_add t).le))
        (extractStridedSlice (S3 s t) ![off + s, 0, 0] i (slices_S3 h2 (Nat.zero_add t).le))))
      (extractStridedSlice (S3 s t) ![off + s, 0, 0] i (slices_S3 h2 (Nat.zero_add t).le))
      (extractStridedSlice (S3 s t) ![off, 0, 0] i (slices_S3 h1 (Nat.zero_add t).le))⟩ ::
    piecesI s t up v i n (off + 2 * s) (by rw [Nat.succ_mul] at h; omega)

/-- The pieces' shapes. -/
theorem piecesV_shapes (s t : ℕ) (up : ℕ → Bool) (v : FVec F (S3 32 t) .f32) (i : IVec (S3 32 t) 32) :
    ∀ (n off : ℕ) (h : off + n * (2 * s) ≤ 32), (piecesV s t up v i n off h).map (·.1) = List.replicate (2 * n) (S3 s t)
  | 0, _, _ => rfl
  | n + 1, off, h => by
    rw [piecesV, List.map_cons, List.map_cons, piecesV_shapes s t up v i n]
    rfl

/-- The pieces' shapes. -/
theorem piecesI_shapes (s t : ℕ) (up : ℕ → Bool) (v : FVec F (S3 32 t) .f32) (i : IVec (S3 32 t) 32) :
    ∀ (n off : ℕ) (h : off + n * (2 * s) ≤ 32), (piecesI s t up v i n off h).map (·.1) = List.replicate (2 * n) (S3 s t)
  | 0, _, _ => rfl
  | n + 1, off, h => by
    rw [piecesI, List.map_cons, List.map_cons, piecesI_shapes s t up v i n]
    rfl

/-- `m` blocks of `s` rows make 32 rows. -/
theorem concatenates_replicate {s t m : ℕ} (hm : 2 ≤ m) (h : m * s = 32) :
    Shape.Concatenates (List.replicate m (S3 s t)) (S3 32 t) 0 := by
  refine ⟨by rw [List.length_replicate]; exact hm, fun x hx => ?_, ?_⟩
  · obtain rfl := (List.mem_replicate.1 hx).2
    refine ⟨rfl, fun b hb => ?_⟩
    match b, hb with
    | ⟨0, _⟩, hb => exact absurd rfl hb
    | ⟨1, _⟩, _ => rfl
    | ⟨2, _⟩, _ => rfl
  · rw [List.map_replicate, List.sum_replicate]
    exact h

/-- Blocks of `2 * 2 ^ k` rows in 32. -/
theorem blocks_mul (k : Fin 5) : 2 ^ (4 - k.val) * (2 * 2 ^ k.val) = 32 := by
  match k with
  | ⟨0, _⟩ => rfl
  | ⟨1, _⟩ => rfl
  | ⟨2, _⟩ => rfl
  | ⟨3, _⟩ => rfl
  | ⟨4, _⟩ => rfl

/-- Pieces of `2 ^ k` rows in 32. -/
theorem pieces_mul (k : Fin 5) : 2 * 2 ^ (4 - k.val) * 2 ^ k.val = 32 := by
  have := blocks_mul k
  rw [Nat.mul_comm 2, Nat.mul_assoc]
  exact this

/-- Keys and positions. -/
structure Pair (F : FTy → Type) (t : ℕ) where
  v : FVec F (S3 32 t) .f32
  i : IVec (S3 32 t) 32

/-- Whether the block from row `off` on ascends, in the stages that make runs of `2 ^ j` rows. -/
def upAt (j off : ℕ) : Bool := off / 2 ^ j % 2 == 0

/-- ONE STAGE: rows `2 ^ k` apart are exchanged, in runs of `2 ^ j` rows that ascend and descend in turn. -/
def stage (t : ℕ) (p : Pair F t) (kj : Fin 5 × ℕ) : Pair F t :=
  ⟨concatenate (S3 32 t) 0 (piecesV (2 ^ kj.1.val) t (upAt kj.2) p.v p.i (2 ^ (4 - kj.1.val)) 0 ((Nat.zero_add _).trans (blocks_mul kj.1)).le)
      (by rw [piecesV_shapes]; exact concatenates_replicate (Nat.le_mul_of_pos_right 2 (Nat.two_pow_pos _)) (pieces_mul kj.1)),
   concatenate (S3 32 t) 0 (piecesI (2 ^ kj.1.val) t (upAt kj.2) p.v p.i (2 ^ (4 - kj.1.val)) 0 ((Nat.zero_add _).trans (blocks_mul kj.1)).le)
      (by rw [piecesI_shapes]; exact concatenates_replicate (Nat.le_mul_of_pos_right 2 (Nat.two_pow_pos _)) (pieces_mul kj.1))⟩

/-- The sort's stages. -/
def sortStages : List (Fin 5 × ℕ) :=
  [(0, 1), (1, 2), (0, 2), (2, 3), (1, 3), (0, 3), (3, 4), (2, 4), (1, 4), (0, 4), (4, 5), (3, 5), (2, 5), (1, 5), (0, 5)]

/-- The merge's stages. -/
def mergeStages : List (Fin 5 × ℕ) := [(4, 5), (3, 5), (2, 5), (1, 5), (0, 5)]

/-- Rows `n - 1, n - 2, …, 0` of the second half of the columns, one piece each. -/
def backRows {α : Type} (t : ℕ) (x : (S3 32 (t * 2)).Idx → α) : (n : ℕ) → n ≤ 32 → List ((s : Shape) × (s.Idx → α))
  | 0, _ => []
  | n + 1, h => ⟨S3 1 t, extractStridedSlice (S3 1 t) ![n, t, 0] x (slices_S3 h (by omega))⟩ :: backRows t x n (Nat.le_of_succ_le h)

/-- The pieces' shapes. -/
theorem backRows_shapes {α : Type} (t : ℕ) (x : (S3 32 (t * 2)).Idx → α) :
    ∀ (n : ℕ) (h : n ≤ 32), (backRows t x n h).map (·.1) = List.replicate n (S3 1 t)
  | 0, _ => rfl
  | n + 1, h => by
    rw [backRows, List.map_cons, backRows_shapes t x n]
    rfl

/-- The second half of the columns, its rows in reverse. -/
def back {α : Type} (t : ℕ) (x : (S3 32 (t * 2)).Idx → α) : (S3 32 t).Idx → α :=
  concatenate (S3 32 t) 0 (backRows t x 32 (le_refl 32))
    (by rw [backRows_shapes]; exact concatenates_replicate (by omega) rfl)

/-- The first half of the columns. -/
def front {α : Type} (t : ℕ) (x : (S3 32 (t * 2)).Idx → α) : (S3 32 t).Idx → α :=
  extractStridedSlice (S3 32 t) ![0, 0, 0] x (slices_S3 (by omega) (by omega))

/-- A merge's select: of each two entries the first. -/
def halved (t : ℕ) (p : Pair F (t * 2)) : Pair F t :=
  ⟨select (firstOf (front t p.v) (back t p.v) (front t p.i) (back t p.i)) (front t p.v) (back t p.v),
   select (firstOf (front t p.v) (back t p.v) (front t p.i) (back t p.i)) (front t p.i) (back t p.i)⟩

/-- The merges, until one column is left. -/
def merged : (m : ℕ) → Pair F (2 ^ m) → Pair F 1
  | 0, p => p
  | m + 1, p => merged m (mergeStages.foldl (stage (2 ^ m)) (halved (2 ^ m) p))

/-- THE SELECTION: the rows sorted, then merged. -/
def selected (p : Pair F 256) : Pair F 1 := merged 8 (sortStages.foldl (stage 256) p)

end Cert.Proof.Net

end
-- ==== Proof.Tab.lean ====
/-
  The selection with its block tables written out: each stage by the list of its blocks' first rows, each merge by the list of
  the reversed rows, which is the form the printed body has; and that it is the selection of Net.
-/
module

public import proofs.«01_k».proof.Proof.Net

@[expose] public section

noncomputable section

namespace Cert.Proof.Tab

open Idealize.ShloMosaic
open Cert.Proof.Net (S3 Pair firstOf turned slices_S3 concatenates_replicate piecesV piecesI upAt)

variable {F : FTy → Type} [FloatOps F]

/-- The exchanged blocks of `x`: for each of `rows`, whether the block ascends and the first rows of its two halves. -/
def cells {α : Type} (s t : ℕ) (v : FVec F (S3 32 t) .f32) (i : IVec (S3 32 t) 32) (x : (S3 32 t).Idx → α) :
    (rows : List (Bool × ℕ × ℕ)) → (∀ r ∈ rows, r.2.1 + s ≤ 32 ∧ r.2.2 + s ≤ 32) → List ((s : Shape) × (s.Idx → α))
  | [], _ => []
  | r :: rs, h =>
    have ha := slices_S3 (h r List.mem_cons_self).1 (Nat.zero_add t).le
    have hb := slices_S3 (h r List.mem_cons_self).2 (Nat.zero_add t).le
    ⟨S3 s t, select (turned r.1 (firstOf (extractStridedSlice (S3 s t) ![r.2.1, 0, 0] v ha) (extractStridedSlice (S3 s t) ![r.2.2, 0, 0] v hb)
        (extractStridedSlice (S3 s t) ![r.2.1, 0, 0] i ha) (extractStridedSlice (S3 s t) ![r.2.2, 0, 0] i hb)))
      (extractStridedSlice (S3 s t) ![r.2.1, 0, 0] x ha) (extractStridedSlice (S3 s t) ![r.2.2, 0, 0] x hb)⟩ ::
    ⟨S3 s t, select (turned r.1 (firstOf (extractStridedSlice (S3 s t) ![r.2.1, 0, 0] v ha) (extractStridedSlice (S3 s t) ![r.2.2, 0, 0] v hb)
        (extractStridedSlice (S3 s t) ![r.2.1, 0, 0] i ha) (extractStridedSlice (S3 s t) ![r.2.2, 0, 0] i hb)))
      (extractStridedSlice (S3 s t) ![r.2.2, 0, 0] x hb) (extractStridedSlice (S3 s t) ![r.2.1, 0, 0] x ha)⟩ ::
    cells s t v i x rs (fun r' hr => h r' (List.mem_cons_of_mem _ hr))

/-- The blocks' shapes. -/
theorem cells_shapes {α : Type} (s t : ℕ) (v : FVec F (S3 32 t) .f32) (i : IVec (S3 32 t) 32) (x : (S3 32 t).Idx → α) :
    ∀ (rows : List (Bool × ℕ × ℕ)) (h : ∀ r ∈ rows, r.2.1 + s ≤ 32 ∧ r.2.2 + s ≤ 32),
      (cells s t v i x rows h).map (·.1) = List.replicate (2 * rows.length) (S3 s t)
  | [], _ => rfl
  | r :: rs, h => by
    rw [cells, List.map_cons, List.map_cons, cells_shapes s t v i x rs]
    rfl

/-- A stage's table: the half blocks' height, whether each block ascends, and its halves' first rows. -/
structure Step where
  s : ℕ
  rows : List (Bool × ℕ × ℕ)
  inside : ∀ r ∈ rows, r.2.1 + s ≤ 32 ∧ r.2.2 + s ≤ 32
  many : 2 ≤ 2 * rows.length
  full : 2 * rows.length * s = 32

/-- One stage by its table. -/
def stage (t : ℕ) (p : Pair F t) (k : Step) : Pair F t :=
  ⟨concatenate (S3 32 t) 0 (cells k.s t p.v p.i p.v k.rows k.inside)
      (by rw [cells_shapes]; exact concatenates_replicate k.many k.full),
   concatenate (S3 32 t) 0 (cells k.s t p.v p.i p.i k.rows k.inside)
      (by rw [cells_shapes]; exact concatenates_replicate k.many k.full)⟩

/-- Rows 1 apart, in runs of 2. -/
abbrev step01 : Step :=
  ⟨1, [(true, 0, 1), (false, 2, 3), (true, 4, 5), (false, 6, 7), (true, 8, 9), (false, 10, 11), (true, 12, 13), (false, 14, 15), (true, 16, 17), (false, 18, 19), (true, 20, 21), (false, 22, 23), (true, 24, 25), (false, 26, 27), (true, 28, 29), (false, 30, 31)],
    by decide, by decide, by decide⟩

/-- Rows 2 apart, in runs of 4. -/
abbrev step12 : Step :=
  ⟨2, [(true, 0, 2), (false, 4, 6), (true, 8, 10), (false, 12, 14), (true, 16, 18), (false, 20, 22), (true, 24, 26), (false, 28, 30)],
    by decide, by decide, by decide⟩

/-- Rows 1 apart, in runs of 4. -/
abbrev step02 : Step :=
  ⟨1, [(true, 0, 1), (true, 2, 3), (false, 4, 5), (false, 6, 7), (true, 8, 9), (true, 10, 11), (false, 12, 13), (false, 14, 15), (true, 16, 17), (true, 18, 19), (false, 20, 21), (false, 22, 23), (true, 24, 25), (true, 26, 27), (false, 28, 29), (false, 30, 31)],
    by decide, by decide, by decide⟩

/-- Rows 4 apart, in runs of 8. -/
abbrev step23 : Step :=
  ⟨4, [(true, 0, 4), (false, 8, 12), (true, 16, 20), (false, 24, 28)],
    by decide, by decide, by decide⟩

/-- Rows 2 apart, in runs of 8. -/
abbrev step13 : Step :=
  ⟨2, [(true, 0, 2), (true, 4, 6), (false, 8, 10), (false, 12, 14), (true, 16, 18), (true, 20, 22), (false, 24, 26), (false, 28, 30)],
    by decide, by decide, by decide⟩

/-- Rows 1 apart, in runs of 8. -/
abbrev step03 : Step :=
  ⟨1, [(true, 0, 1), (true, 2, 3), (true, 4, 5), (true, 6, 7), (false, 8, 9), (false, 10, 11), (false, 12, 13), (false, 14, 15), (true, 16, 17), (true, 18, 19), (true, 20, 21), (true, 22, 23), (false, 24, 25), (false, 26, 27), (false, 28, 29), (false, 30, 31)],
    by decide, by decide, by decide⟩

/-- Rows 8 apart, in runs of 16. -/
abbrev step34 : Step :=
  ⟨8, [(true, 0, 8), (false, 16, 24)],
    by decide, by decide, by decide⟩

/-- Rows 4 apart, in runs of 16. -/
abbrev step24 : Step :=
  ⟨4, [(true, 0, 4), (true, 8, 12), (false, 16, 20), (false, 24, 28)],
    by decide, by decide, by decide⟩

/-- Rows 2 apart, in runs of 16. -/
abbrev step14 : Step :=
  ⟨2, [(true, 0, 2), (true, 4, 6), (true, 8, 10), (true, 12, 14), (false, 16, 18), (false, 20, 22), (false, 24, 26), (false, 28, 30)],
    by decide, by decide, by decide⟩

/-- Rows 1 apart, in runs of 16. -/
abbrev step04 : Step :=
  ⟨1, [(true, 0, 1), (true, 2, 3), (true, 4, 5), (true, 6, 7), (true, 8, 9), (true, 10, 11), (true, 12, 13), (true, 14, 15), (false, 16, 17), (false, 18, 19), (false, 20, 21), (false, 22, 23), (false, 24, 25), (false, 26, 27), (false, 28, 29), (false, 30, 31)],
    by decide, by decide, by decide⟩

/-- Rows 16 apart, in runs of 32. -/
abbrev step45 : Step :=
  ⟨16, [(true, 0, 16)],
    by decide, by decide, by decide⟩

/-- Rows 8 apart, in runs of 32. -/
abbrev step35 : Step :=
  ⟨8, [(true, 0, 8), (true, 16, 24)],
    by decide, by decide, by decide⟩

/-- Rows 4 apart, in runs of 32. -/
abbrev step25 : Step :=
  ⟨4, [(true, 0, 4), (true, 8, 12), (true, 16, 20), (true, 24, 28)],
    by decide, by decide, by decide⟩

/-- Rows 2 apart, in runs of 32. -/
abbrev step15 : Step :=
  ⟨2, [(true, 0, 2), (true, 4, 6), (true, 8, 10), (true, 12, 14), (true, 16, 18), (true, 20, 22), (true, 24, 26), (true, 28, 30)],
    by decide, by decide, by decide⟩

/-- Rows 1 apart, in runs of 32. -/
abbrev step05 : Step :=
  ⟨1, [(true, 0, 1), (true, 2, 3), (true, 4, 5), (true, 6, 7), (true, 8, 9), (true, 10, 11), (true, 12, 13), (true, 14, 15), (true, 16, 17), (true, 18, 19), (true, 20, 21), (true, 22, 23), (true, 24, 25), (true, 26, 27), (true, 28, 29), (true, 30, 31)],
    by decide, by decide, by decide⟩

/-- The sort's tables. -/
abbrev sortSteps : List Step :=
  [step01, step12, step02, step23, step13, step03, step34, step24, step14, step04, step45, step35, step25, step15, step05]

/-- A merge's tables. -/
abbrev mergeSteps : List Step := [step45, step35, step25, step15, step05]

/-- The listed rows of the second half of the columns, one piece each. -/
def backs {α : Type} (t u : ℕ) (hu : t + t ≤ u) (x : (S3 32 u).Idx → α) :
    (rows : List ℕ) → (∀ n ∈ rows, n + 1 ≤ 32) → List ((s : Shape) × (s.Idx → α))
  | [], _ => []
  | n :: ns, h => ⟨S3 1 t, extractStridedSlice (S3 1 t) ![n, t, 0] x (slices_S3 (h n List.mem_cons_self) hu)⟩ ::
      backs t u hu x ns (fun n' hn => h n' (List.mem_cons_of_mem _ hn))

/-- The pieces' shapes. -/
theorem backs_shapes {α : Type} (t u : ℕ) (hu : t + t ≤ u) (x : (S3 32 u).Idx → α) :
    ∀ (rows : List ℕ) (h : ∀ n ∈ rows, n + 1 ≤ 32), (backs t u hu x rows h).map (·.1) = List.replicate rows.length (S3 1 t)
  | [], _ => rfl
  | n :: ns, h => by
    rw [backs, List.map_cons, backs_shapes t u hu x ns]
    rfl

/-- The rows in reverse. -/
abbrev downward : List ℕ :=
  [31, 30, 29, 28, 27, 26, 25, 24, 23, 22, 21, 20, 19, 18, 17, 16, 15, 14, 13, 12, 11, 10, 9, 8, 7, 6, 5, 4, 3, 2, 1, 0]

/-- The second half of the columns, its rows in reverse. -/
abbrev back {α : Type} (t u : ℕ) (hu : t + t ≤ u) (x : (S3 32 u).Idx → α) : (S3 32 t).Idx → α :=
  concatenate (S3 32 t) 0 (backs t u hu x downward (by decide))
    (by rw [backs_shapes]; exact concatenates_replicate (by decide) (by decide))

/-- The first half of the columns. -/
abbrev front {α : Type} (t u : ℕ) (hu : t + t ≤ u) (x : (S3 32 u).Idx → α) : (S3 32 t).Idx → α :=
  extractStridedSlice (S3 32 t) ![0, 0, 0] x (slices_S3 (Nat.zero_add 32).le (by omega))

/-- A merge's select: of each two entries the first. -/
def halved (t u : ℕ) (hu : t + t ≤ u) (p : Pair F u) : Pair F t :=
  ⟨select (firstOf (front t u hu p.v) (back t u hu p.v) (front t u hu p.i) (back t u hu p.i)) (front t u hu p.v) (back t u hu p.v),
   select (firstOf (front t u hu p.v) (back t u hu p.v) (front t u hu p.i) (back t u hu p.i)) (front t u hu p.i) (back t u hu p.i)⟩

/-- One merge. -/
def round (t u : ℕ) (hu : t + t ≤ u) (p : Pair F u) : Pair F t := mergeSteps.foldl (stage t) (halved t u hu p)

/-- THE SELECTION, by its tables. -/
def selected (p : Pair F 256) : Pair F 1 :=
  round 1 2 (by decide) (round 2 4 (by decide) (round 4 8 (by decide) (round 8 16 (by decide) (round 16 32 (by decide)
    (round 32 64 (by decide) (round 64 128 (by decide) (round 128 256 (by decide) (sortSteps.foldl (stage 256) p))))))))

/-! ## It is the selection -/

/-- The table of `n` blocks from row `off` on. -/
def rowsOf (s : ℕ) (up : ℕ → Bool) : ℕ → ℕ → List (Bool × ℕ × ℕ)
  | 0, _ => []
  | n + 1, off => (up off, off, off + s) :: rowsOf s up n (off + 2 * s)

/-- The key pieces are the cells of that table. -/
theorem piecesV_eq (s t : ℕ) (up : ℕ → Bool) (v : FVec F (S3 32 t) .f32) (i : IVec (S3 32 t) 32) :
    ∀ (n off : ℕ) (h : off + n * (2 * s) ≤ 32) (h' : ∀ r ∈ rowsOf s up n off, r.2.1 + s ≤ 32 ∧ r.2.2 + s ≤ 32),
      piecesV s t up v i n off h = cells s t v i v (rowsOf s up n off) h'
  | 0, _, _, _ => rfl
  | n + 1, off, h, h' => by
    have := piecesV_eq s t up v i n (off + 2 * s) (by rw [Nat.succ_mul] at h; omega) (fun r hr => h' r (List.mem_cons_of_mem _ hr))
    rw [piecesV, this]
    rfl

/-- The position pieces are the cells of that table. -/
theorem piecesI_eq (s t : ℕ) (up : ℕ → Bool) (v : FVec F (S3 32 t) .f32) (i : IVec (S3 32 t) 32) :
    ∀ (n off : ℕ) (h : off + n * (2 * s) ≤ 32) (h' : ∀ r ∈ rowsOf s up n off, r.2.1 + s ≤ 32 ∧ r.2.2 + s ≤ 32),
      piecesI s t up v i n off h = cells s t v i i (rowsOf s up n off) h'
  | 0, _, _, _ => rfl
  | n + 1, off, h, h' => by
    have := piecesI_eq s t up v i n (off + 2 * s) (by rw [Nat.succ_mul] at h; omega) (fun r hr => h' r (List.mem_cons_of_mem _ hr))
    rw [piecesI, this]
    rfl

/-- Concatenations of equal lists are equal. -/
theorem concatenate_congr {α : Type} {T : Shape} {d : Fin T.rank} {xs ys : List ((s : Shape) × (s.Idx → α))} (h : xs = ys)
    (hx : Shape.Concatenates (xs.map (·.1)) T d) (hy : Shape.Concatenates (ys.map (·.1)) T d) :
    concatenate T d xs hx = concatenate T d ys hy := by
  subst h
  rfl

/-- A stage is the stage of its table. -/
theorem stage_eq (t : ℕ) (p : Pair F t) (kj : Fin 5 × ℕ) (k : Step) (hs : k.s = 2 ^ kj.1.val)
    (hr : k.rows = rowsOf (2 ^ kj.1.val) (upAt kj.2) (2 ^ (4 - kj.1.val)) 0) : Net.stage t p kj = stage t p k := by
  obtain ⟨s, rows, inside, many, full⟩ := k
  dsimp only at hs hr
  subst hs hr
  unfold Net.stage stage
  exact congrArg₂ Pair.mk (concatenate_congr (piecesV_eq _ _ _ _ _ _ _ _ inside) _ _) (concatenate_congr (piecesI_eq _ _ _ _ _ _ _ _ inside) _ _)

/-- The sort's stages are those of its tables. -/
theorem sort_eq (t : ℕ) (p : Pair F t) : Net.sortStages.foldl (Net.stage t) p = sortSteps.foldl (stage t) p := by
  unfold Net.sortStages sortSteps
  simp only [List.foldl_cons, List.foldl_nil]
  rw [stage_eq t _ (0, 1) step01 rfl rfl]
  rw [stage_eq t _ (1, 2) step12 rfl rfl]
  rw [stage_eq t _ (0, 2) step02 rfl rfl]
  rw [stage_eq t _ (2, 3) step23 rfl rfl]
  rw [stage_eq t _ (1, 3) step13 rfl rfl]
  rw [stage_eq t _ (0, 3) step03 rfl rfl]
  rw [stage_eq t _ (3, 4) step34 rfl rfl]
  rw [stage_eq t _ (2, 4) step24 rfl rfl]
  rw [stage_eq t _ (1, 4) step14 rfl rfl]
  rw [stage_eq t _ (0, 4) step04 rfl rfl]
  rw [stage_eq t _ (4, 5) step45 rfl rfl]
  rw [stage_eq t _ (3, 5) step35 rfl rfl]
  rw [stage_eq t _ (2, 5) step25 rfl rfl]
  rw [stage_eq t _ (1, 5) step15 rfl rfl]
  rw [stage_eq t _ (0, 5) step05 rfl rfl]

/-- A merge's stages are those of its tables. -/
theorem merge_eq (t : ℕ) (p : Pair F t) : Net.mergeStages.foldl (Net.stage t) p = mergeSteps.foldl (stage t) p := by
  unfold Net.mergeStages mergeSteps
  simp only [List.foldl_cons, List.foldl_nil]
  rw [stage_eq t _ (4, 5) step45 rfl rfl]
  rw [stage_eq t _ (3, 5) step35 rfl rfl]
  rw [stage_eq t _ (2, 5) step25 rfl rfl]
  rw [stage_eq t _ (1, 5) step15 rfl rfl]
  rw [stage_eq t _ (0, 5) step05 rfl rfl]

/-- The rows below `n` in reverse. -/
def below : ℕ → List ℕ
  | 0 => []
  | n + 1 => n :: below n

/-- The reversed rows are those listed. -/
theorem backRows_eq {α : Type} (t : ℕ) (x : (S3 32 (t * 2)).Idx → α) (hu : t + t ≤ t * 2) :
    ∀ (n : ℕ) (h : n ≤ 32) (h' : ∀ k ∈ below n, k + 1 ≤ 32), Net.backRows t x n h = backs t (t * 2) hu x (below n) h'
  | 0, _, _ => rfl
  | n + 1, h, h' => by
    rw [Net.backRows, backRows_eq t x hu n _ (fun k hk => h' k (List.mem_cons_of_mem _ hk))]
    rfl

/-- The reversed second half is the listed one. -/
theorem back_eq {α : Type} (t : ℕ) (hu : t + t ≤ t * 2) (x : (S3 32 (t * 2)).Idx → α) : Net.back t x = back t (t * 2) hu x :=
  concatenate_congr (backRows_eq t x hu 32 (le_refl 32) (by decide)) _ _

/-- A merge's select by its list. -/
theorem halved_eq (t : ℕ) (hu : t + t ≤ t * 2) (p : Pair F (t * 2)) : Net.halved t p = halved t (t * 2) hu p := by
  unfold Net.halved halved
  rw [back_eq t hu, back_eq t hu]
  rfl

/-- A merge by its tables. -/
theorem round_eq (t : ℕ) (hu : t + t ≤ t * 2) (p : Pair F (t * 2)) :
    Net.mergeStages.foldl (Net.stage t) (Net.halved t p) = round t (t * 2) hu p := by
  rw [merge_eq, halved_eq t hu]
  rfl

/-- One merge more. -/
theorem merged_succ (m : ℕ) (p : Pair F (2 ^ m * 2)) :
    Net.merged (m + 1) p = Net.merged m (round (2 ^ m) (2 ^ m * 2) (by omega) p) :=
  congrArg (Net.merged m) (round_eq (2 ^ m) _ p)

/-- The selection by its tables is the selection. -/
theorem selected_eq (p : Pair F 256) : Net.selected p = selected p := by
  unfold Net.selected selected
  rw [sort_eq]
  exact (merged_succ 7 _).trans ((merged_succ 6 _).trans ((merged_succ 5 _).trans ((merged_succ 4 _).trans
    ((merged_succ 3 _).trans ((merged_succ 2 _).trans ((merged_succ 1 _).trans ((merged_succ 0 _).trans rfl)))))))

end Cert.Proof.Tab

end
-- ==== Proof.BodyI.lean ====
/-
  The first call's body as the selection of Tab.lean: three reads, the distances, the selection, one store.
-/
module

public import proofs.«01_k».proof.Proof.Gen.KernelIdeal
public import proofs.«01_k».proof.Proof.Tab

@[expose] public section

set_option maxRecDepth 65536

noncomputable section

namespace Cert.Proof.ScI

open Cert.KernelIdeal Cert.KernelIdeal.Gen
open Idealize.ShloMosaic Idealize.SL.Sem
open Cert.Proof

variable {F : FTy → Type} [FloatOps F]

/-- The distances of all points to one block of 128 centres, 32 rows of 256 columns, from the blocks read. -/
def dist (v0 : Vec F S1x8192x8 .f32) (v2 : Vec F S1x8x128 .f32) (v4 : Vec F S1x8192x1 .f32) : FVec F S32x256x128 .f32 :=
  shapeCast S32x256x128
    (maximumf
      (subf
        (addf (broadcastTo S8192x128 (shapeCast S8192x1 v4 shapeCasts_S1x8192x1_S8192x1) broadcasts_S8192x1_S8192x128)
          (broadcastTo S8192x128
            (extractStridedSlice S1x128 ![3, 0] (shapeCast S8x128 v2 shapeCasts_S1x8x128_S8x128) slices_S8x128_o3_0_S1x128)
            broadcasts_S1x128_S8192x128))
        (mulf (broadcast S8192x128 (Scalar.ofBits .f32 0x40000000#32))
          (matmul dot_S8192x8_S8x128_S8192x128_1_0_0_1_n_n none (shapeCast S8192x8 v0 shapeCasts_S1x8192x8_S8192x8)
            (shapeCast S8x128 v2 shapeCasts_S1x8x128_S8x128) (constant S8192x128 .f32 0x00000000#32))))
      (broadcast S8192x128 (Scalar.ofBits .f32 0x00000000#32)))
    shapeCasts_S8192x128_S32x256x128

/-- The positions: row times 256 plus column. -/
def posn : IVec S32x256x128 32 :=
  addi (muli (iota .tc S32x256x128 32 [0] iota_S32x256x128_d0_w32) (broadcast S32x256x128 256#32))
    (iota .tc S32x256x128 32 [1] iota_S32x256x128_d1_w32)

/-- What the body stores, from the blocks read and the batch. -/
def stored (b : BitVec 32) (v0 : Vec F S1x8192x8 .f32) (v2 : Vec F S1x8x128 .f32) (v4 : Vec F S1x8192x1 .f32) : IVec S1x1x32x128 32 :=
  shapeCast S1x1x32x128
    (addi (shapeCast S32x128 (Tab.selected ⟨dist v0 v2 v4, posn⟩).i shapeCasts_S32x1x128_S32x128)
      (broadcast S32x128 (Scalar.muli b 8192#32)))
    shapeCasts_S32x128_S1x1x32x128

/-- The body: three reads, the selection, the store. -/
def bodyProg (i : grid0.Coords) (arg2 : Memref sig .tc .vmem S1x8192x8 .f32) (harg2 : arg2.IsWhole) (arg3 : Memref sig .tc .vmem S1x8x128 .f32) (harg3 : arg3.IsWhole) (arg4 : Memref sig .tc .vmem S1x8192x1 .f32) (harg4 : arg4.IsWhole) (arg5 : Memref sig .tc .vmem S1x1x32x128 .i32) (harg5 : arg5.IsWhole) :
    Prog (TpuEff nD τ sig (Elt F) Λ₀ .tc) PUnit := do
  let v0 : Vec F S1x8192x8 .f32 ← Prog.lift (.load arg2 (Rect.unit (s := S1x8192x8) ![0, 0, 0] S1x8192x8.size inb_S1x8192x8_S1x8192x8_0_0_0).toLoadRect (View.loadsAt_vmem h_S1x8192x8))
  let v2 : Vec F S1x8x128 .f32 ← Prog.lift (.load arg3 (Rect.unit (s := S1x8x128) ![0, 0, 0] S1x8x128.size inb_S1x8x128_S1x8x128_0_0_0).toLoadRect (View.loadsAt_vmem h_S1x8x128))
  let v4 : Vec F S1x8192x1 .f32 ← Prog.lift (.load arg4 (Rect.unit (s := S1x8192x1) ![0, 0, 0] S1x8192x1.size inb_S1x8192x1_S1x8192x1_0_0_0).toLoadRect (View.loadsAt_vmem h_S1x8192x1))
  let _ : Vec F S1x1x32x128 .i32 ← Prog.lift (.load arg5 (Rect.unit (s := S1x1x32x128) ![0, 0, 0, 0] S1x1x32x128.size inb_S1x1x32x128_S1x1x32x128_0_0_0_0).toLoadRect (View.loadsAt_vmem h_S1x1x32x128))
  Prog.lift (.store arg5 (Rect.unit (s := S1x1x32x128) ![0, 0, 0, 0] S1x1x32x128.size inb_S1x1x32x128_S1x1x32x128_0_0_0_0) (stored (BitVec.ofNat 32 (i 0).val) v0 v2 v4) Finset.univ (View.stores_vmem_bits_univ h_S1x1x32x128 rfl) (.inl rfl))
  pure ⟨⟩

attribute [local irreducible] concatenate extractStridedSlice select ori andi cmpf cmpi xori constantI shapeCast addi muli broadcast
  broadcastTo iota maximumf subf addf mulf

set_option maxHeartbeats 40000000 in
/-- The printed body is that program. -/
theorem body_eq : cc0__topk_body (F := F) = bodyProg (F := F) := by rfl

end Cert.Proof.ScI

end
-- ==== Proof.RegionI.lean ====
/-
  The TensorCore call of `KernelIdeal` that selects the 32 nearest points: its body run at symbolic staging buffers, its
  proof data, and its region over the thread state "every unscoped array at a valuation".
-/
module

public import proofs.«01_k».proof.Proof.ScCommonI
public import proofs.«01_k».proof.Proof.BodyI
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.WholeRead
public import Idealize.ShloMosaic.Lib.VecWindow
public import Idealize.ShloMosaic.Lib.Pipeline.Value
public import Idealize.ShloMosaic.Lib.Tactic

@[expose] public section

noncomputable section

namespace Cert.Proof.ScI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A whole memref's buffer held at the contents that read `X`. -/
abbrev hd (c : Dev nD) {sp : Space} {S : Shape} {e : EltTy} {M : Memref sig .tc sp S e} (h : M.IsWhole) (X : S.Idx → Elt F e) : sProp 𝕄 :=
  M.view.loc (c : Thread nD τ) ↦{fullShare} h.unread X

omit [FloatOps F] in
/-- A whole memref owned at what it reads is its buffer held at the contents that read so. -/
theorem owns_hd (c : Dev nD) {sp : Space} {S : Shape} {e : EltTy} {M : Memref sig .tc sp S e} (h : M.IsWhole) (X : S.Idx → Elt F e) :
    (owns (c : Thread nD τ) M fullShare X : sProp 𝕄) = hd (F := F) c h X := by
  have hs : M.view.set = Finset.univ := h.set_eq_univ
  unfold owns hd
  rw [hs]
  have h1 : iprop(∃ f : M.view.ty.Contents (Elt F), ⌜View.read (Elt F) M.view f = X⌝ ∗ (View.loc (c : Thread nD τ) M.view ↦{fullShare} f))
      ⊢ (View.loc (c : Thread nD τ) M.view ↦{fullShare} h.unread X : sProp 𝕄) := by
    iintro ⟨%f, %hf, H⟩
    rw [h.eq_unread hf]
    iexact H
  have h2 : (View.loc (c : Thread nD τ) M.view ↦{fullShare} h.unread X : sProp 𝕄)
      ⊢ iprop(∃ f : M.view.ty.Contents (Elt F), ⌜View.read (Elt F) M.view f = X⌝ ∗ (View.loc (c : Thread nD τ) M.view ↦{fullShare} f)) := by
    iintro H
    iexists (h.unread X)
    isplitr
    · ipureintro; exact h.read_unread X
    iexact H
  exact BI.Entails.antisymm h1 h2

omit [FloatOps F] in
/-- A load of a whole buffer at the contents that read `X` reads `X`. -/
theorem readAt_whole {sp : Space} {S : Shape} {e : EltTy} {M : Memref sig .tc sp S e} (h : M.IsWhole) (X : S.Idx → Elt F e)
    (off : Fin S.rank → ℕ) (inb : ∀ a, off a + S.size a ≤ S.size a) :
    View.readAt (Elt F) M.view (Rect.unit (s := S) off S.size inb).toLoadRect (h.unread X) = X := by
  funext x
  refine (h.readAt_unread X _ x).trans (congrArg X ?_)
  funext a
  apply Fin.ext
  have := inb a
  show off a + 1 * (x a).val = (x a).val
  omega

/-- The body, run: from the three blocks read and the result's buffer at anything, to the blocks as they were and the
    result's buffer at `stored`. -/
theorem body_run (c : Dev nD) (i : grid0.Coords) (M0 : Memref sig .tc .vmem S1x8192x8 .f32) (h0 : M0.IsWhole) (M1 : Memref sig .tc .vmem S1x8x128 .f32) (h1 : M1.IsWhole)
    (M2 : Memref sig .tc .vmem S1x8192x1 .f32) (h2 : M2.IsWhole) (M3 : Memref sig .tc .vmem S1x1x32x128 .i32) (h3 : M3.IsWhole)
    (v0 : Vec F S1x8192x8 .f32) (v2 : Vec F S1x8x128 .f32) (v4 : Vec F S1x8192x1 .f32) (v5 : Vec F S1x1x32x128 .i32) (Q : PUnit → sProp 𝕄) :
    iprop(hd c h0 v0 ∗ hd c h1 v2 ∗ hd c h2 v4 ∗ hd c h3 v5
        ∗ (iprop(hd c h0 v0 ∗ hd c h1 v2 ∗ hd c h2 v4 ∗ hd c h3 (stored (BitVec.ofNat 32 (i 0).val) v0 v2 v4)) -∗ Q ⟨⟩))
      ⊢ wp frame (wpE (defs₀ (F := F)) Variants.none c none) Set.univ (cc0__topk_body i M0 h0 M1 h1 M2 h2 M3 h3) Q := by
  rw [body_eq]
  unfold bodyProg
  iintro ⟨H0, H1, H2, H3, Hk⟩
  sl_exec!
  sl_step
  iapply Hk
  isplitl [H0]; · iexact H0
  isplitl [H1]; · iexact H1
  isplitl [H2]; · iexact H2
  unfold hd
  rw [← h3.eq_unread (X := stored (BitVec.ofNat 32 (i 0).val) v0 v2 v4)
    (f := M3.view.writes (Elt F) M3.view.junk (body_run.sl.H3_1 i M0 h0 M1 h1 M2 h2 v0 v2 v4)) (by
      unfold body_run.sl.H3_1
      refine (View.read_writes_full _ _ _ _ _).trans ?_
      rw [readAt_whole h0, readAt_whole h1, readAt_whole h2])]
  iexact H3

/-! ## The proof data, at an entry valuation -/

variable (V : (c : Dev nD) → (b : Ref sig .tc) → Buf (Elt F) ((c : Thread nD τ).loc b))
variable (B : ℕ)

/-- Window `w`'s block at point `t`, read off the valuation. -/
abbrev iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the result's staging buffer at point `t`. -/
def outBlk (c : Dev nD) (t : Fin cfg0.N) : IVec S1x1x32x128 32 :=
  stored (BitVec.ofNat 32 (grid0.coords t 0).val) (iblk V c 0 t) (iblk V c 1 t) (iblk V c 2 t)

/-- The proof data: the arrays at the valuation; the inputs' buffers left as fetched, the result's at `outBlk`; the
    launch's tallies still owed, the waits recorded below `B`. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk V c t
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ B}

/-- The pipelined call's admitted state: it has no prefetched operand. -/
def adm : (p : Fin 1) → (pcfgs (F := F) p).Adm := fun | 0 => ⟨fun k => k.elim0, trivial⟩ | ⟨_ + 1, h⟩ => absurd h (Nat.not_lt.2 (Nat.le_add_left _ _))

/-- The data of each pipelined call; there is one. -/
def pdats : (p : Fin 1) → (c : Dev nD) → Dat τ (Elt F) (HIx 1) ℕ UU ℕ (Pipeline.pin (pcfgs (F := F)) adm p) c
  | ⟨0, _⟩ => fun c => dat V B c

/-- At a grid step, the points' window holds their block. -/
theorem before0 (c : Dev nD) (t : Fin cfg0.N) (d) : (dat V B c).before 0 t d = iblk V c 0 t :=
  ((dat V B c).before_in_eq_fetched 0 rfl (fun _ => rfl) (fun _ _ _ => rfl) (fun _ => rfl) t d).trans rfl
/-- At a grid step, the centres' window holds their block. -/
theorem before1 (c : Dev nD) (t : Fin cfg0.N) (d) : (dat V B c).before 1 t d = iblk V c 1 t :=
  ((dat V B c).before_in_eq_fetched 1 rfl (fun _ => rfl) (fun _ _ _ => rfl) (fun _ => rfl) t d).trans rfl
/-- At a grid step, the squared lengths' window holds their block. -/
theorem before2 (c : Dev nD) (t : Fin cfg0.N) (d) : (dat V B c).before 2 t d = iblk V c 2 t :=
  ((dat V B c).before_in_eq_fetched 2 rfl (fun _ => rfl) (fun _ _ _ => rfl) (fun _ => rfl) t d).trans rfl

/-- The library's body obligation. -/
theorem body_obligation (c : Dev nD) : BodyObligation (dat V B c) (defs₀ (F := F)) Variants.none none Set.univ := fun t => by
  rw [bigSep_W0, bigSep_W0]
  dsimp only
  rw [show (dat V B c).Φ t.castSucc = (dat V B c).Φ t.succ from rfl, show (dat V B c).owesAt none t.succ = (dat V B c).owesAt none t.castSucc from rfl]
  iintro ⟨HΦ, Howes, ⟨%d0, H0⟩, ⟨%d1, H1⟩, ⟨%d2, H2⟩, ⟨%d3, H3⟩⟩
  rw [before0, before1, before2]
  have e0 := owns_hd (F := F) (M := stage0_0 (cfg0.slots t 0)) c (hstage0_0 ((cfg0.slots t 0).cast nbuf0_0)) (iblk V c 0 t)
  have e1 := owns_hd (F := F) (M := stage0_1 (cfg0.slots t 1)) c (hstage0_1 ((cfg0.slots t 1).cast nbuf0_1)) (iblk V c 1 t)
  have e2 := owns_hd (F := F) (M := stage0_2 (cfg0.slots t 2)) c (hstage0_2 ((cfg0.slots t 2).cast nbuf0_2)) (iblk V c 2 t)
  have e3 := owns_hd (F := F) (M := stage0_3 (cfg0.slots t 3)) c (hstage0_3 ((cfg0.slots t 3).cast nbuf0_3)) ((dat V B c).before 3 t d3)
  have e4 := owns_hd (F := F) (M := stage0_3 (cfg0.slots t 3)) c (hstage0_3 ((cfg0.slots t 3).cast nbuf0_3)) (stored (BitVec.ofNat 32 (grid0.coords t 0).val) (iblk V c 0 t) (iblk V c 1 t) (iblk V c 2 t))
  ihave H0 := (Entails.of_eq e0) $$ H0
  ihave H1 := (Entails.of_eq e1) $$ H1
  ihave H2 := (Entails.of_eq e2) $$ H2
  ihave H3 := (Entails.of_eq e3) $$ H3
  iapply (body_run (F := F) c (grid0.coords t) (stage0_0 (cfg0.slots t 0)) (hstage0_0 ((cfg0.slots t 0).cast nbuf0_0)) (stage0_1 (cfg0.slots t 1)) (hstage0_1 ((cfg0.slots t 1).cast nbuf0_1)) (stage0_2 (cfg0.slots t 2)) (hstage0_2 ((cfg0.slots t 2).cast nbuf0_2)) (stage0_3 (cfg0.slots t 3)) (hstage0_3 ((cfg0.slots t 3).cast nbuf0_3)) (iblk V c 0 t) (iblk V c 1 t) (iblk V c 2 t) ((dat V B c).before 3 t d3))
  isplitl [H0]; · iexact H0
  isplitl [H1]; · iexact H1
  isplitl [H2]; · iexact H2
  isplitl [H3]; · iexact H3
  iintro ⟨H0, H1, H2, H3⟩
  ihave H0 := (Entails.of_eq e0.symm) $$ H0
  ihave H1 := (Entails.of_eq e1.symm) $$ H1
  ihave H2 := (Entails.of_eq e2.symm) $$ H2
  ihave H3 := (Entails.of_eq e4.symm) $$ H3
  isplitl [HΦ]; · iexact HΦ
  isplitl [Howes]; · iexact Howes
  isplitl [H0]; · iexact H0
  isplitl [H1]; · iexact H1
  isplitl [H2]; · iexact H2
  iexact H3

/-! ## The region over the thread state -/

omit [FloatOps F] in
/-- The launch's tallies are on no cell at the wait index of the kernels. -/
theorem Otc_none (d : Dev nD) (g : GSem nD τ sig) : (K (F := F)).Otc d 0 g (none : HIx 1) = 0 := by
  by_contra h
  have h1 := (K (F := F)).lev_of_Otc_pos (d := d) (n := 0) (g := g) (ι := none) (Nat.pos_of_ne_zero h)
  have h2 : (K (F := F)).lev g (none : HIx 1) = 0 := rfl
  omega

/-- The result array after the region: every point's block written back. -/
def sel (c : Dev nD) : Buf (Elt F) ((c : Thread nD τ).loc main_v11) := (dat V B c).arrAt 3 cfg0.N

variable (Vp : (c : Dev nD) → (b : Ref sig .tc) → Buf (Elt F) ((c : Thread nD τ).loc b))

/-- The thread state: the unscoped arrays at a valuation, and the launch's tallies with the waits recorded below `B`. -/
abbrev tst (W : (c : Dev nD) → (b : Ref sig .tc) → Buf (Elt F) ((c : Thread nD τ).loc b)) (c : Dev nD) : sProp 𝕄 :=
  iprop(unscopedBufs c (W c) ∗ ∃ W, ⌜(K (F := F)).WBelow (SparseCore.T c) W B⌝ ∗ owes (SparseCore.T c : Thread nD τ) ((K (F := F)).Otc c 0) W)

set_option backward.isDefEq.respectTransparency.types false in
/-- The region: entered by splitting the four arrays out of the unscoped ones, left with them put back. -/
def reg (hVp_out : ∀ c, Vp c main_v11 = sel V B c)
    (hVp_ne : ∀ c (b : Ref sig .tc), b ≠ main_v11 → Vp c b = V c b) :
    Pipeline.RegionSeg (pcfgs (F := F)) adm (pdats V B) none defs₀ Variants.none (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V B c).loose
  hwaits c := Pipeline.cellsWaits_intro _ _ _ 0 c fun w s t => (K (F := F)).mayWait_none _ (Otc_none c)
  pre c := tst B V c
  post c := tst B Vp c
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V B) (launch0).win (launch0).arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V B 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V B) ((pdats V B 0 c).share_full fun _ => rfl) (V c) (Vp c) ((pdats V B 0 c).arrAt · cfg0.N)
      (fun w => by
        fin_cases w
        · exact ((pdats V B 0 c).arrAt_in 0 rfl _).trans (hVp_ne c main_v5 (by decide)).symm
        · exact ((pdats V B 0 c).arrAt_in 1 rfl _).trans (hVp_ne c main_v10 (by decide)).symm
        · exact ((pdats V B 0 c).arrAt_in 2 rfl _).trans (hVp_ne c main_v3 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.ScI

end
-- ==== Proof.ScMainI.lean ====
/-
  `KernelIdeal`'s run: the tiles' obligations, @main on the TensorCore (the host operations before the SparseCore call,
  the call, the host operations after it), and what every unscoped array of a device holds at the end.
-/
module

public import proofs.«01_k».proof.Proof.ScTile4I
public import proofs.«01_k».proof.Proof.RegionI
public import Idealize.ShloMosaic.Lib.Pipeline.Frame

@[expose] public section

set_option maxRecDepth 16384

noncomputable section

namespace Cert.Proof.ScI

open Cert.KernelIdeal Cert.KernelIdeal.Gen

open Idealize.ShloMosaic
open Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles' obligations -/

/-- A tile's program is the printed body at its core and tile. -/
theorem defs₀_vector (c : Fin τ.nSC) (s : Fin τ.nSub) :
    defs₀ (F := F) (.scVector c s) 1 ()
      = SparseCore.onTile hcore1 hsub1 (fun c s => cc1__gather_body (fun | 0 => c | 1 => s | ⟨_ + 2, h⟩ => absurd h (Nat.not_lt.2 (Nat.le_add_left _ _)))
          feM (Memref.isWhole_whole _) ptM (Memref.isWhole_whole _) npM (Memref.isWhole_whole _) ixM (Memref.isWhole_whole _)
            rwM (Memref.isWhole_whole _) gpM (Memref.isWhole_whole _) ixS (Memref.isWhole_whole _) ptS (Memref.isWhole_whole _) npS (Memref.isWhole_whole _)
            rwS (Memref.isWhole_whole _) gpS (Memref.isWhole_whole _) cc1_scratch5 cc1_scoped0 cc1_scoped1 cc1_scoped2 cc1_scoped3 cc1_scoped4 cc1_scoped5 cc1_scoped6) ⟨⟩ c s := rfl

/-- The grid coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
/-- Waits recorded at the default tag are among those a tile may record. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task: `tile_body` at its coordinates. -/
theorem tileObl (X : Opnds F) (hX : InBatch X) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X hX d (coordsV ⟨_, hci.1⟩ ⟨_, hci.2⟩) facts O W hO).trans (wp_mono frame _ _ fun _ => waits_weaken)

/-! ## The launch element -/

/-- The pipeline's cells and duties at launch. -/
def uP : UR sig nD τ := initOf (Pipeline.cells (Pipeline.pin (pcfgs (F := F)) adm) cellOf_inj) (Pipeline.launchToks (Pipeline.pin (pcfgs (F := F)) adm) cellOf_inj)

/-- The ghost state at the start: the SparseCore call's handshake and the pipelined call's rounds. -/
def u₀ : UU := (initOf (K (F := F)).hsCells (K (F := F)).hsToks, (uP (F := F), 1))

/-- What the launch hands @main for the pipeline of the TensorCore call. -/
def ghost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- A separating product of empty assertions is empty. -/
theorem bigSep_emp1 {I : Type} (s : Finset I) : (bigSep s fun _ => iprop(emp)) = (iprop(emp) : sProp 𝕄) := bigSep_emp_const s

omit [FloatOps F] in
/-- The launch element's right half gives the pipeline's part of it. -/
theorem own_pair_snd (a : UR sig nD τ) : (BI.own ((embR : Emb UPC (MT nD τ sig (HIx 1) (Elt F) ℕ UU ℕ)) (a, (1 : Counters))) : sProp 𝕄) ⊢ BI.own (EP (F := F) a) :=
  BI.Entails.refl _

/-- The pipeline's element of the launch is its cells and duties of every device. -/
theorem fund : (BI.own (EP (F := F) (uP (F := F))) : sProp 𝕄)
      ⊢ iprop(|==> ((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))) :=
  Pipeline.fund_ghost (Pipeline.pin (pcfgs (F := F)) adm) EP cellOf_inj

/-- The pipeline's cells and duties of every device, device by device. -/
theorem ghost_intro :
    iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => ghost (F := F) d := by
  rw [← bigSep_sep']
  refine bigSep_mono fun c _ => ?_
  rw [bigSep_univ_of_subsingleton (0 : Fin 1), bigSep_univ_of_subsingleton (0 : Fin 1)]
  exact BI.Entails.refl _

/-- The ghost state at the start gives each protocol its own part. -/
theorem hu₀ (X : Opnds F) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P X).x q thr) := by
  unfold u₀
  iintro Hu
  ihave H := (ownU_pair (initOf (K (F := F)).hsCells (K (F := F)).hsToks) ((uP (F := F), 1) : UPC)) $$ Hu
  icases H with ⟨HH, HR⟩
  ihave H := (own_pair_snd (F := F) (uP (F := F))) $$ HR
  imod (fund (F := F)) $$ H with ⟨Hg, Ht⟩
  imodintro
  isplitl [HH]; · iexact HH
  isplitl [Hg Ht]
  · iapply ghost_intro
    isplitl [Hg] <;> iassumption
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emp1]
  iempintro

/-! ## What the call takes and brings back -/

/-- The operands are split between the two cores. -/
theorem op_cores (X : Opnds F) (d : Dev nD) : (opPts X d fullShare : sProp 𝕄) = bigSep Finset.univ fun c : Fin 2 => opPts X d (coreSh c) := opPts_leaves X d 1 fullShare

/-- Contents given once are contents given to each SparseCore. -/
theorem bigSep_exists2 {A : Type} (f : A) (Φ : Fin 2 → A → sProp 𝕄) :
    (bigSep Finset.univ fun i => Φ i f) ⊢ bigSep Finset.univ fun i => iprop(∃ a, Φ i a) :=
  bigSep_mono fun i _ => exists_intro (Φ := fun a => Φ i a) f

/-- The operands and the two results whole, at any contents, are what the two SparseCores take. -/
theorem st_intro (X : Opnds F) (d : Dev nD) (f : Buf (Elt F) (rwLoc d)) (g : Buf (Elt F) (gpLoc d)) :
    iprop(opPts X d fullShare ∗ (rwLoc d ↦{fullShare} f) ∗ (gpLoc d ↦{fullShare} g)) ⊢ bigSep Finset.univ fun c : Fin ((K (F := F)).nCore 0) => (P X).st 0 d c := by
  rw [show (bigSep Finset.univ fun c : Fin ((K (F := F)).nCore 0) => (P X).st 0 d c)
      = bigSep Finset.univ fun c : Fin 2 => iprop(opPts X d (coreSh c) ∗ (∃ f, rwLoc d ↦[rwCore c.val]{fullShare} f) ∗ (∃ f, gpLoc d ↦[gpCore c.val]{fullShare} f)) from
    bigSep_cast (F := F) nCore_zero fun c => iprop(opPts X d (coreSh c) ∗ (∃ f, rwLoc d ↦[rwCore c.val]{fullShare} f) ∗ (∃ f, gpLoc d ↦[gpCore c.val]{fullShare} f))]
  rw [bigSep_sep' Finset.univ (fun c : Fin 2 => opPts X d (coreSh c)) fun c => iprop((∃ f, rwLoc d ↦[rwCore c.val]{fullShare} f) ∗ (∃ f, gpLoc d ↦[gpCore c.val]{fullShare} f)),
    bigSep_sep' Finset.univ (fun c : Fin 2 => iprop(∃ f, rwLoc d ↦[rwCore c.val]{fullShare} f)) fun c => iprop(∃ f, gpLoc d ↦[gpCore c.val]{fullShare} f),
    op_cores, rw_cores, gp_cores]
  iintro ⟨Ho, Hr, Hg⟩
  isplitl [Ho]; · iexact Ho
  isplitl [Hr]
  · iapply (bigSep_exists2 (F := F) f fun c a => (rwLoc d ↦[rwCore c.val]{fullShare} a))
    iexact Hr
  · iapply (bigSep_exists2 (F := F) g fun c a => (gpLoc d ↦[gpCore c.val]{fullShare} a))
    iexact Hg

/-- What the two SparseCores bring back is the operands and the two results whole, filled in. -/
theorem dn_eq (X : Opnds F) (d : Dev nD) : (bigSep Finset.univ fun c : Fin ((K (F := F)).nCore 0) => (P X).dn 0 d c)
    = iprop(opPts X d fullShare ∗ (rwLoc d ↦{fullShare} rowsV X d) ∗ (gpLoc d ↦{fullShare} gpV X d)) := by
  rw [show (bigSep Finset.univ fun c : Fin ((K (F := F)).nCore 0) => (P X).dn 0 d c)
      = bigSep Finset.univ fun c : Fin 2 => iprop(opPts X d (coreSh c) ∗ (rwLoc d ↦[rwCore c.val]{fullShare} rowsV X d) ∗ (gpLoc d ↦[gpCore c.val]{fullShare} gpV X d)) from
    bigSep_cast (F := F) nCore_zero fun c => iprop(opPts X d (coreSh c) ∗ (rwLoc d ↦[rwCore c.val]{fullShare} rowsV X d) ∗ (gpLoc d ↦[gpCore c.val]{fullShare} gpV X d))]
  rw [bigSep_sep' Finset.univ (fun c : Fin 2 => opPts X d (coreSh c)) fun c => iprop((rwLoc d ↦[rwCore c.val]{fullShare} rowsV X d) ∗ (gpLoc d ↦[gpCore c.val]{fullShare} gpV X d)),
    bigSep_sep' Finset.univ (fun c : Fin 2 => (rwLoc d ↦[rwCore c.val]{fullShare} rowsV X d : sProp 𝕄)) fun c => (gpLoc d ↦[gpCore c.val]{fullShare} gpV X d : sProp 𝕄),
    op_cores, rw_cores, gp_cores]

/-! ## @main on the TensorCore -/

/-- The host operations before the TensorCore call. -/
abbrev opsA : List (HloOp τ sig (Elt F)) :=
  [ unary main_arg0 main_v0 ((transpose S4x8192x3 [0, 2, 1] · transposes_S4x3x8192_S4x8192x3_0_2_1) : (⟨S4x3x8192, .f32⟩ : BufTy).Contents (Elt F) → (⟨S4x8192x3, .f32⟩ : BufTy).Contents (Elt F)),
    binary main_arg0 main_arg0 main_v1 (mulf : (⟨S4x3x8192, .f32⟩ : BufTy).Contents (Elt F) → (⟨S4x3x8192, .f32⟩ : BufTy).Contents (Elt F) → (⟨S4x3x8192, .f32⟩ : BufTy).Contents (Elt F)),
    nullary main_cst (constant S_ .f32 0x00000000#32),
    binary main_v1 main_cst main_v2 ((fun x v => Host.reduceAdd x v reducesTo_S4x3x8192_S4x8192_d1 h_S_) : (⟨S4x3x8192, .f32⟩ : BufTy).Contents (Elt F) → (⟨S_, .f32⟩ : BufTy).Contents (Elt F) → (⟨S4x8192, .f32⟩ : BufTy).Contents (Elt F)),
    unary main_v2 main_v3 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x00000000#32),
    unary main_cst_0 main_v4 (broadcastInDim S4x8192x5 ![] bcast_S_S4x8192x5 : (⟨S_, .f32⟩ : BufTy).Contents (Elt F) → (⟨S4x8192x5, .f32⟩ : BufTy).Contents (Elt F)),
    binary main_v0 main_v4 main_v5 ((fun a b => concatenate S4x8192x8 2 [⟨S4x8192x3, a⟩, ⟨S4x8192x5, b⟩] concatenates_S4x8192x3_S4x8192x5_S4x8192x8_d2) : (⟨S4x8192x3, .f32⟩ : BufTy).Contents (Elt F) → (⟨S4x8192x5, .f32⟩ : BufTy).Contents (Elt F) → (⟨S4x8192x8, .f32⟩ : BufTy).Contents (Elt F)),
    binary main_arg1 main_arg1 main_v6 (mulf : (⟨S4x3x1024, .f32⟩ : BufTy).Contents (Elt F) → (⟨S4x3x1024, .f32⟩ : BufTy).Contents (Elt F) → (⟨S4x3x1024, .f32⟩ : BufTy).Contents (Elt F)),
    nullary main_cst_1 (constant S_ .f32 0x00000000#32),
    binary main_v6 main_cst_1 main_v7 ((fun x v => Host.reduceAdd x v reducesTo_S4x3x1024_S4x1024_d1 h_S_) : (⟨S4x3x1024, .f32⟩ : BufTy).Contents (Elt F) → (⟨S_, .f32⟩ : BufTy).Contents (Elt F) → (⟨S4x1024, .f32⟩ : BufTy).Contents (Elt F)),
    unary main_v7 main_v8 (broadcastInDim S4x1x1024 ![0, 2] bcast_S4x1024_S4x1x1024_0_2 : (⟨S4x1024, .f32⟩ : BufTy).Contents (Elt F) → (⟨S4x1x1024, .f32⟩ : BufTy).Contents (Elt F)),
    nullary main_cst_2 (constant S_ .f32 0x00000000#32),
    unary main_cst_2 main_v9 (broadcastInDim S4x4x1024 ![] bcast_S_S4x4x1024 : (⟨S_, .f32⟩ : BufTy).Contents (Elt F) → (⟨S4x4x1024, .f32⟩ : BufTy).Contents (Elt F)),
    nary ![main_arg1, main_v8, main_v9] main_v10 (fun u => (concatenate S4x8x1024 1 [⟨S4x3x1024, (u 0 : (⟨S4x3x1024, .f32⟩ : BufTy).Contents (Elt F))⟩, ⟨S4x1x1024, (u 1 : (⟨S4x1x1024, .f32⟩ : BufTy).Contents (Elt F))⟩, ⟨S4x4x1024, (u 2 : (⟨S4x4x1024, .f32⟩ : BufTy).Contents (Elt F))⟩] concatenates_S4x3x1024_S4x1x1024_S4x4x1024_S4x8x1024_d1 : (⟨S4x8x1024, .f32⟩ : BufTy).Contents (Elt F))) ]

/-- The host operations between the two calls. -/
abbrev opsMid : List (HloOp τ sig (Elt F)) :=
  [ unary main_v11 main_v12 ((transpose S4x8x128x32 [0, 1, 3, 2] · transposes_S4x8x32x128_S4x8x128x32_0_1_3_2) : (⟨S4x8x32x128, .i32⟩ : BufTy).Contents (Elt F) → (⟨S4x8x128x32, .i32⟩ : BufTy).Contents (Elt F)),
    reshape main_v12 main_v13 (rfl : (.i32 : EltTy) = .i32) shapeCasts_S4x8x128x32_S131072,
    unary main_arg2 main_v14 ((transpose S4x8192x128 [0, 2, 1] · transposes_S4x128x8192_S4x8192x128_0_2_1) : (⟨S4x128x8192, .f32⟩ : BufTy).Contents (Elt F) → (⟨S4x8192x128, .f32⟩ : BufTy).Contents (Elt F)),
    reshape main_v14 main_v15 (rfl : (.f32 : EltTy) = .f32) shapeCasts_S4x8192x128_S32768x128,
    reshape main_arg0 main_v16 (rfl : (.f32 : EltTy) = .f32) shapeCasts_S4x3x8192_S98304,
    reshape main_arg1 main_v17 (rfl : (.f32 : EltTy) = .f32) shapeCasts_S4x3x1024_S12288 ]

/-- The host operations after the SparseCore call. -/
abbrev opsPost : List (HloOp τ sig (Elt F)) :=
  [ reshape main_v18_0 main_v19 (rfl : (.f32 : EltTy) = .f32) shapeCasts_S131072x128_S4x1024x32x128,
    unary main_v19 main_v20 ((transpose S4x128x1024x32 [0, 3, 1, 2] · transposes_S4x1024x32x128_S4x128x1024x32_0_3_1_2) : (⟨S4x1024x32x128, .f32⟩ : BufTy).Contents (Elt F) → (⟨S4x128x1024x32, .f32⟩ : BufTy).Contents (Elt F)),
    reshape main_v18_1 main_v21 (rfl : (.f32 : EltTy) = .f32) shapeCasts_S393216_S3x4x1024x32,
    unary main_v21 main_v22 ((transpose S4x3x1024x32 [1, 0, 2, 3] · transposes_S3x4x1024x32_S4x3x1024x32_1_0_2_3) : (⟨S3x4x1024x32, .f32⟩ : BufTy).Contents (Elt F) → (⟨S4x3x1024x32, .f32⟩ : BufTy).Contents (Elt F)),
    binary main_v22 main_v20 main_v23 ((fun a b => concatenate S4x131x1024x32 1 [⟨S4x3x1024x32, a⟩, ⟨S4x128x1024x32, b⟩] concatenates_S4x3x1024x32_S4x128x1024x32_S4x131x1024x32_d1) : (⟨S4x3x1024x32, .f32⟩ : BufTy).Contents (Elt F) → (⟨S4x128x1024x32, .f32⟩ : BufTy).Contents (Elt F) → (⟨S4x131x1024x32, .f32⟩ : BufTy).Contents (Elt F)) ]

/-- The TensorCore call. -/
abbrev tcCall : Prog (TpuEff nD τ sig (Elt F) (SparseCore.Sig (ΛP (F := F)) 1) .tc) PUnit :=
  Prog.lift (.customCall (SparseCore.inner (Pipeline.entry 0)) ())

/-- The same in the pipeline's own label signature. -/
abbrev tcInner : Prog (TpuEff nD τ sig (Elt F) (ΛP (F := F)) .tc) PUnit := .op (.customCall (Pipeline.entry 0) ()) fun x => .ret x

/-- The TensorCore call is the pipelined call, lifted. -/
theorem tcCall_eq : tcCall (F := F) = SparseCore.liftProg (tcInner (F := F)) := rfl

/-- @main is host operations, the TensorCore call, host operations, the SparseCore call and host operations. -/
theorem main_eq (d : Dev nD) : main (F := F) d = (seq opsA >>= fun _ => tcCall >>= fun _ => seq opsMid >>= fun _ => (sc (F := F)).run d 0 >>= fun _ => seq opsPost >>= fun _ => Pure.pure ⟨⟩) := by
  rw [seq_bind_seqK, seq_bind_seqK, seq_bind_seqK]; rfl

abbrev fe' : DevRef τ sig := Proc.devRef .tc main_v15
abbrev pt' : DevRef τ sig := Proc.devRef .tc main_v16
abbrev np' : DevRef τ sig := Proc.devRef .tc main_v17
abbrev ix' : DevRef τ sig := Proc.devRef .tc main_v13
abbrev rw' : DevRef τ sig := Proc.devRef .tc main_v18_0
abbrev gp' : DevRef τ sig := Proc.devRef .tc main_v18_1

abbrev sl' : DevRef τ sig := Proc.devRef .tc main_v11

/-- The arrays of the call. -/
abbrev S6 : Finset (DevRef τ sig) := {fe', pt', np', ix', rw', gp'}

omit [FloatOps F] in
/-- To hold the SparseCore call's six arrays is to hold each. -/
theorem held_S6 (d : Dev nD) (W : Valuation τ sig (Elt F)) :
    (held (SparseCore.T d) S6 W : sProp 𝕄) = iprop((feLoc d ↦{fullShare} W fe') ∗ (ptLoc d ↦{fullShare} W pt') ∗ (npLoc d ↦{fullShare} W np') ∗ (ixLoc d ↦{fullShare} W ix')
      ∗ (rwLoc d ↦{fullShare} W rw') ∗ (gpLoc d ↦{fullShare} W gp')) := by
  unfold held S6
  rw [SparseCore.bigSep_insert' (by decide), SparseCore.bigSep_insert' (by decide), SparseCore.bigSep_insert' (by decide), SparseCore.bigSep_insert' (by decide),
    SparseCore.bigSep_insert' (by decide), bigSep_singleton]

/-- An array of the TensorCore that is not scoped is among those the launch hands @main. -/
theorem mem_uc (b : Ref sig .tc) (h : (Proc.devRef (τ := τ) .tc b).isScoped = false) : (Proc.devRef .tc b : DevRef τ sig) ∈ Pipeline.ucRefs τ sig :=
  Finset.mem_filter.mpr ⟨devRef_mem_tcRefs b, by rw [h]; decide⟩

/-- The six arrays are among @main's. -/
theorem S6_sub : S6 ⊆ Pipeline.ucRefs τ sig := by
  intro b hb
  simp only [S6, Finset.mem_insert, Finset.mem_singleton] at hb
  rcases hb with rfl | rfl | rfl | rfl | rfl | rfl <;> exact mem_uc _ rfl

variable (m : (ℓ : Loc nD τ sig) → Buf (Elt F) ℓ) (ρ : Dev nD → PrngReg)

/-- What the arrays of device `d` hold at launch. -/
def V0 (d : Dev nD) : Valuation τ sig (Elt F) := fun b => m (d, b)
/-- What they hold when the TensorCore call starts. -/
def VA (d : Dev nD) : Valuation τ sig (Elt F) := after opsA (V0 m d)
/-- The same, the TensorCore's arrays by name. -/
abbrev VAr (c : Dev nD) (b : Ref sig .tc) : Buf (Elt F) ((c.tc : Thread nD τ).loc b) := VA m c (Proc.devRef .tc b)
/-- What the waits before the calls may have recorded. -/
abbrev wB : ℕ := 8 * SparseCore.Cfg.Blocks.fst 1 1 0
/-- What the arrays hold when the TensorCore call has returned. -/
def VB (d : Dev nD) : Valuation τ sig (Elt F) := Function.update (VA m d) sl' (sel (VAr m) wB d)
/-- What they hold when the SparseCore call starts. -/
def V1 (d : Dev nD) : Valuation τ sig (Elt F) := after opsMid (VB m d)
/-- The call's operands. -/
def XM : Opnds F where
  fe d := V1 m d fe'
  pt d := V1 m d pt'
  np d := V1 m d np'
  ix d := V1 m d ix'
/-- What the arrays hold when the call has returned. -/
def V2 (d : Dev nD) : Valuation τ sig (Elt F) :=
  Function.update (Function.update (V1 m d) rw' (rowsV (XM m) d)) gp' (gpV (XM m) d)
/-- What they hold at the end. -/
def V3 (d : Dev nD) : Valuation τ sig (Elt F) := after opsPost (V2 m d)

/-- After the SparseCore call, its second result holds the coordinates. -/
theorem V2_gp (d : Dev nD) : V2 m d gp' = gpV (XM m) d := Function.update_self _ _ _
/-- After the SparseCore call, its first result holds the rows. -/
theorem V2_rw (d : Dev nD) : V2 m d rw' = rowsV (XM m) d := (Function.update_of_ne (show rw' ≠ gp' by decide) _ _).trans (Function.update_self _ _ _)
/-- The SparseCore call changes no other array. -/
theorem V2_other (d : Dev nD) (b : DevRef τ sig) (h1 : b ≠ rw') (h2 : b ≠ gp') : V2 m d b = V1 m d b :=
  (Function.update_of_ne h2 _ _).trans (Function.update_of_ne h1 _ _)

/-- The first host operations use @main's arrays only. -/
theorem a_sub : ∀ op ∈ (opsA : List (HloOp τ sig (Elt F))), op.bufs ⊆ Pipeline.ucRefs τ sig :=
  fun op h => Pipeline.sub_ucRefs op (List.forall_iff_forall_mem.mp (show (opsA : List (HloOp τ sig (Elt F))).Forall fun op => op.bufs ⊆ tcRefs τ sig from
    ⟨unary_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., nary_bufs_sub ..⟩) op h)
/-- The host operations between the calls use @main's arrays only. -/
theorem mid_sub : ∀ op ∈ (opsMid : List (HloOp τ sig (Elt F))), op.bufs ⊆ Pipeline.ucRefs τ sig :=
  fun op h => Pipeline.sub_ucRefs op (List.forall_iff_forall_mem.mp (show (opsMid : List (HloOp τ sig (Elt F))).Forall fun op => op.bufs ⊆ tcRefs τ sig from
    ⟨unary_bufs_sub .., reshape_bufs_sub .., unary_bufs_sub .., reshape_bufs_sub .., reshape_bufs_sub .., reshape_bufs_sub ..⟩) op h)
/-- The last host operations use @main's arrays only. -/
theorem post_sub : ∀ op ∈ (opsPost : List (HloOp τ sig (Elt F))), op.bufs ⊆ Pipeline.ucRefs τ sig :=
  fun op h => Pipeline.sub_ucRefs op (List.forall_iff_forall_mem.mp (show (opsPost : List (HloOp τ sig (Elt F))).Forall fun op => op.bufs ⊆ tcRefs τ sig from
    ⟨reshape_bufs_sub .., unary_bufs_sub .., reshape_bufs_sub .., unary_bufs_sub .., binary_bufs_sub ..⟩) op h)
/-- The first host operations make no array of their own. -/
theorem a_fresh : ∀ op ∈ (opsA : List (HloOp τ sig (Elt F))), op.fresh = ∅ := by
  intro _ h; (repeat (cases h with | head => rfl | tail _ h => ?_)); exact nomatch h
/-- The host operations between the calls make no array of their own. -/
theorem mid_fresh : ∀ op ∈ (opsMid : List (HloOp τ sig (Elt F))), op.fresh = ∅ := by
  intro _ h; (repeat (cases h with | head => rfl | tail _ h => ?_)); exact nomatch h
/-- The last host operations make no array of their own. -/
theorem post_fresh : ∀ op ∈ (opsPost : List (HloOp τ sig (Elt F))), op.fresh = ∅ := by
  intro _ h; (repeat (cases h with | head => rfl | tail _ h => ?_)); exact nomatch h

/-- What @main leaves: every array it was handed, at its final contents. -/
abbrev FIN (d : Dev nD) : sProp 𝕄 := held (d.tc : Thread nD τ) (Pipeline.ucRefs τ sig) (V3 m d)

/-- After the TensorCore call, its result holds the selection. -/
theorem VB_sl (d : Dev nD) : VB m d sl' = sel (VAr m) wB d := Function.update_self _ _ _
/-- The TensorCore call changes no other array. -/
theorem VB_other (d : Dev nD) (b : DevRef τ sig) (h : b ≠ sl') : VB m d b = VA m d b := Function.update_of_ne h _ _

/-- The TensorCore call, from the arrays before it to the arrays after it. -/
theorem wp_tcCall (d : Dev nD) (Q : PUnit → sProp 𝕄) :
    iprop((iprop(boundary (d.tc : Thread nD τ) ∗ tst wB (fun c b => VB m c (Proc.devRef .tc b)) d) -∗ Q ⟨⟩)
        ∗ boundary (d.tc : Thread nD τ) ∗ tst wB (VAr m) d ∗ levAts (K (F := F)).L (K (F := F)).lev ∗ ghost (F := F) d)
      ⊢ wp frame (wpE ((K (F := F)).defs (D (F := F))) 𝒱 (SparseCore.T d) none) Set.univ tcCall Q := by
  rw [tcCall_eq]
  refine BI.Entails.trans ?_ ((K (F := F)).wp_liftProg (D (F := F)) 𝒱 (SparseCore.T d) Set.univ none (tcInner (F := F)) Q)
  have h := Pipeline.RegionSeg.wp (pcfgs (F := F)) adm (pdats (VAr m) wB) none cellOf_inj EP defs₀ Variants.none (K (F := F)).L (K (F := F)).lev
    (reg (VAr m) wB (fun c b => VB m c (Proc.devRef .tc b)) (fun c => VB_sl m c) (fun c b hb => VB_other m c _ (fun e => hb (Proc.devRef_injective _ e))))
    d none (fun _ h => nomatch h) (fun x => .ret x) Q
  refine BI.Entails.trans (show (iprop((iprop(boundary (d.tc : Thread nD τ) ∗ tst wB (fun c b => VB m c (Proc.devRef .tc b)) d) -∗ Q ⟨⟩)
        ∗ boundary (d.tc : Thread nD τ) ∗ tst wB (VAr m) d ∗ levAts (K (F := F)).L (K (F := F)).lev ∗ ghost (F := F) d) : sProp 𝕄)
      ⊢ (iprop((iprop(boundary (d.tc : Thread nD τ) ∗ tst wB (fun c b => VB m c (Proc.devRef .tc b)) d)
            -∗ wp frame (wpE (D (F := F)) 𝒱 (d.tc : Thread nD τ) none) Set.univ (.ret ⟨⟩) Q)
        ∗ boundary (d.tc : Thread nD τ) ∗ tst wB (VAr m) d ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄) from ?_) h
  unfold ghost
  iintro ⟨HQ, Hb, Ht, Hl, Hg⟩
  isplitl [HQ]
  · iintro H
    sl_step
    iapply HQ
    iexact H
  isplitl [Hb]; · iexact Hb
  isplitl [Ht]; · iexact Ht
  isplitl [Hl]; · iexact Hl
  iexact Hg

/-- What the TensorCore's state before the first call holds beside what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's handshake state before the first SparseCore call. -/
theorem tcSt_eq (d : Dev nD) : ((K (F := F)).tcSt EH d 0 : sProp 𝕄)
    = iprop((∃ W, ⌜(K (F := F)).WBelow (SparseCore.T d) W wB⌝ ∗ owes (SparseCore.T d : Thread nD τ) ((K (F := F)).Otc d 0) W) ∗ tcRest (F := F) d) := rfl

/-- @main on device `d`'s TensorCore. -/
theorem hmain (κ : GSem nD τ sig → ℕ) (d : Dev nD) :
    iprop((K (F := F)).ctx EH (P (XM m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (V0 m d) from
    Pipeline.unscopedBufs_held d (V0 m d), main_eq]
  iintro ⟨#Hctx, Hst, ⟨Hb, Hheld, Hts, -⟩, Hg⟩
  iapply (wp_seq 𝒱 none Set.univ d (Pipeline.ucRefs τ sig) _ opsA a_sub a_fresh (V0 m d)) $$ [Hb Hheld]
  · isplitl [Hb]; · iexact Hb
    iexact Hheld
  iintro ⟨Hb, Hheld⟩
  rw [wp_bind]
  ihave Hst := (Entails.of_eq (tcSt_eq (F := F) d)) $$ Hst
  icases Hst with ⟨HO, Hst⟩
  iapply (wp_tcCall m d)
  isplitr [Hb Hheld HO Hg]
  rotate_left
  · isplitl [Hb]; · iexact Hb
    isplitl [Hheld HO]
    · isplitl [Hheld]
      · iapply (Entails.of_eq (Pipeline.unscopedBufs_held d (VA m d)).symm)
        iexact Hheld
      iexact HO
    isplitr
    · iapply ((K (F := F)).ctx_levAts κ)
      iexact Hctx
    iexact Hg
  iintro ⟨Hb, Hub, HO⟩
  ihave Hheld := (Entails.of_eq (Pipeline.unscopedBufs_held d (VB m d))) $$ Hub
  iapply (wp_seq 𝒱 none Set.univ d (Pipeline.ucRefs τ sig) _ opsMid mid_sub mid_fresh (VB m d)) $$ [Hb Hheld]
  · isplitl [Hb]; · iexact Hb
    iexact Hheld
  iintro ⟨Hb, Hheld⟩
  ihave Hh := (Entails.of_eq (show (held (d.tc : Thread nD τ) (Pipeline.ucRefs τ sig) (after opsMid (VB m d)) : sProp 𝕄)
      = iprop(((feLoc d ↦{fullShare} V1 m d fe') ∗ (ptLoc d ↦{fullShare} V1 m d pt') ∗ (npLoc d ↦{fullShare} V1 m d np') ∗ (ixLoc d ↦{fullShare} V1 m d ix')
      ∗ (rwLoc d ↦{fullShare} V1 m d rw') ∗ (gpLoc d ↦{fullShare} V1 m d gp')) ∗ held (SparseCore.T d) (Pipeline.ucRefs τ sig \ S6) (V1 m d)) from
    (held_sub_split (SparseCore.T d) S6_sub (V1 m d)).trans (by rw [held_S6]))) $$ Hheld
  icases Hh with ⟨⟨Hfe, Hpt, Hnp, Hix, Hrw, Hgp⟩, Hrest⟩
  rw [wp_bind]
  iapply ((K (F := F)).wp_run (D (F := F)) 𝒱 (EH := EH) (P := P (XM m)) κ d 0) $$ [Hst HO Hfe Hpt Hnp Hix Hrw Hgp Hb Hrest Hts]
  isplitr; · iexact Hctx
  isplitl [Hst HO]
  · iapply (Entails.of_eq (tcSt_eq (F := F) d).symm)
    isplitl [HO]; · iexact HO
    iexact Hst
  isplitl [Hfe Hpt Hnp Hix Hrw Hgp]
  · iapply (st_intro (XM m) d (V1 m d rw') (V1 m d gp'))
    isplitl [Hfe Hpt Hnp Hix]
    · isplitl [Hfe]; · iexact Hfe
      isplitl [Hpt]; · iexact Hpt
      isplitl [Hnp]; · iexact Hnp
      iexact Hix
    isplitl [Hrw]; · iexact Hrw
    iexact Hgp
  iintro ⟨Hst, Hdn⟩
  ihave Hdn' := (Entails.of_eq (dn_eq (XM m) d)) $$ Hdn
  icases Hdn' with ⟨⟨Hfe, Hpt, Hnp, Hix⟩, Hrw, Hgp⟩
  ihave Hheld := (Entails.of_eq (show iprop(((feLoc d ↦{fullShare} (XM m).fe d) ∗ (ptLoc d ↦{fullShare} (XM m).pt d) ∗ (npLoc d ↦{fullShare} (XM m).np d) ∗ (ixLoc d ↦{fullShare} (XM m).ix d)
      ∗ (rwLoc d ↦{fullShare} rowsV (XM m) d) ∗ (gpLoc d ↦{fullShare} gpV (XM m) d)) ∗ held (SparseCore.T d) (Pipeline.ucRefs τ sig \ S6) (V1 m d))
      = (held (d.tc : Thread nD τ) (Pipeline.ucRefs τ sig) (V2 m d) : sProp 𝕄) from
    ((held_sub_split (SparseCore.T d) S6_sub (V2 m d)).trans (by
      rw [held_S6, V2_rw, V2_gp, V2_other m d fe' (by decide) (by decide), V2_other m d pt' (by decide) (by decide), V2_other m d np' (by decide) (by decide), V2_other m d ix' (by decide) (by decide),
        show (held (SparseCore.T d) (Pipeline.ucRefs τ sig \ S6) (V2 m d) : sProp 𝕄) = held (SparseCore.T d) (Pipeline.ucRefs τ sig \ S6) (V1 m d) from
          bigSep_congr fun b hb => by
            rw [V2_other m d b (fun e => (Finset.mem_sdiff.mp hb).2 (by rw [e]; decide)) (fun e => (Finset.mem_sdiff.mp hb).2 (by rw [e]; decide))]]
      rfl)).symm)) $$ [Hfe Hpt Hnp Hix Hrw Hgp Hrest]
  · isplitr [Hrest]
    · isplitl [Hfe]; · iexact Hfe
      isplitl [Hpt]; · iexact Hpt
      isplitl [Hnp]; · iexact Hnp
      isplitl [Hix]; · iexact Hix
      isplitl [Hrw]; · iexact Hrw
      iexact Hgp
    iexact Hrest
  iapply (wp_seq 𝒱 none Set.univ d (Pipeline.ucRefs τ sig) _ opsPost post_sub post_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- The memory at the end: each of @main's arrays has its value. -/
def fq (d : Dev nD) (s' : Phys nD τ sig (Elt F)) : Prop := ∀ b ∈ Pipeline.ucRefs τ sig, s'.mem.mem (d, b) = V3 m d b

/-- What is held at the end determines the memory at the end. -/
theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V3 m d) (Pipeline.ucRefs τ sig))
  isplitl [HSI]; · iexact HSI
  iexact H

/-- What a final state holds: every unscoped array at its final contents, every semaphore counter at zero. -/
def QC : PUnit × MemSt nD τ sig (Elt F) → Prop := fun r =>
  (∀ (c : Dev nD) (b : Ref sig .tc), (Proc.devRef (τ := τ) .tc b).isScoped = false → r.2.mem ((SparseCore.T c).loc b) = V3 m c (Proc.devRef .tc b)) ∧ r.2.sem = fun _ => 0

/-- Every execution terminates with every unscoped array at its final contents and every counter at zero, if the words
    that the call takes name rows of their own batch. -/
theorem run_main [∀ e, Nonempty (Elt F e)] (hX : InBatch (XM m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (XM m)) (A := ∅) facts v₀
    (fun q hq => match q with | 0 => nomatch hq)
    (fun q _ => match q with | 0 => tileObl (XM m) hX)
    (fun q _ => match q with | 0 => SparseCore.Cfg.VecSplit.of_plain (vecSplit (XM m)))
    m ρ main (fun d => ghost (F := F) d) (FIN m) (u₀ (F := F)) (sep_elim_left.trans (hu₀ (XM m))) (hmain m ρ) (fq m) (hfin m) (QC m)
    (fun _ h hz => ⟨fun c b hb => h c _ (mem_uc b hb), hz⟩)

end Cert.Proof.ScI

end
-- ==== Proof.NetRead.lean ====
/-
  One stage and one halving of the selection (Net.lean) read at an index, at any float instance; and that every position the
  selection leaves is one of the positions it was given.
-/
module

public import proofs.«01_k».proof.Proof.Net

@[expose] public section

noncomputable section

namespace Cert.Proof.Net

open Idealize.ShloMosaic

variable {F : FTy → Type} [FloatOps F]

/-- Row `l`, column `c`, lane `x`. -/
def at3 {L T : ℕ} (l : Fin L) (c : Fin T) (x : Fin 128) : (S3 L T).Idx := fun a =>
  match a with
  | ⟨0, _⟩ => l
  | ⟨1, _⟩ => c
  | ⟨2, _⟩ => x

/-- Every index is a row, a column and a lane. -/
theorem eq_at3 {L T : ℕ} (j : (S3 L T).Idx) : ∃ (l : Fin L) (c : Fin T) (y : Fin 128), j = at3 l c y := by
  refine ⟨j 0, j 1, j 2, ?_⟩
  funext a
  match a with
  | ⟨0, _⟩ => rfl
  | ⟨1, _⟩ => rfl
  | ⟨2, _⟩ => rfl

/-- Which of two keys with their positions comes first. -/
def first1 (a b : F .f32) (ai bi : BitVec 32) : BitVec 1 :=
  IntOp.ori (FloatOps.cmpf .olt a b) (IntOp.andi (FloatOps.cmpf .oeq a b) (IntOp.cmpi .slt ai bi))

/-- The outcome, turned over where the block descends. -/
def turn1 (up : Bool) (c : BitVec 1) : BitVec 1 :=
  match up with
  | true => c
  | false => IntOp.xori c 1#1

/-- The turned compare of two blocks at an index. -/
theorem turned_apply {s : Shape} (up : Bool) (av bv : FVec F s .f32) (ai bi : IVec s 32) (j : s.Idx) :
    turned up (firstOf av bv ai bi) j = turn1 up (first1 (av j) (bv j) (ai j) (bi j)) := by
  cases up <;> rfl

/-- Rows `o` up to `o + s`. -/
abbrev rowsFrom {α : Type} (s t o : ℕ) (h : o + s ≤ 32) (x : (S3 32 t).Idx → α) : (S3 s t).Idx → α :=
  extractStridedSlice (S3 s t) ![o, 0, 0] x (slices_S3 h (Nat.zero_add t).le)

/-- Rows from `o` on, at row `r`. -/
theorem rowsFrom_at {α : Type} {s t o : ℕ} (h : o + s ≤ 32) (x : (S3 32 t).Idx → α) (r : Fin s) (c : Fin t) (l : Fin 128)
    (k : Fin 32) (hk : k.val = o + r.val) : rowsFrom s t o h x (at3 r c l) = x (at3 k c l) := by
  show x _ = x _
  congr 1
  funext a
  match a with
  | ⟨0, _⟩ => exact Fin.ext hk.symm
  | ⟨1, _⟩ => exact Fin.ext (Nat.zero_add _)
  | ⟨2, _⟩ => exact Fin.ext (Nat.zero_add _)

/-- The compare of a block's two halves. -/
abbrev blockCmp (s t : ℕ) (up : ℕ → Bool) (v : FVec F (S3 32 t) .f32) (i : IVec (S3 32 t) 32) (o : ℕ) (h1 : o + s ≤ 32)
    (h2 : o + s + s ≤ 32) : IVec (S3 s t) 1 :=
  turned (up o) (firstOf (rowsFrom s t o h1 v) (rowsFrom s t (o + s) h2 v) (rowsFrom s t o h1 i) (rowsFrom s t (o + s) h2 i))

/-- The two pieces of block `q` of the keys. -/
theorem piecesV_get (s t : ℕ) (up : ℕ → Bool) (v : FVec F (S3 32 t) .f32) (i : IVec (S3 32 t) 32) :
    ∀ (n off : ℕ) (h : off + n * (2 * s) ≤ 32) (q o : ℕ) (_ : q < n) (_ : o = off + q * (2 * s)) (h1 : o + s ≤ 32)
      (h2 : o + s + s ≤ 32),
      (piecesV s t up v i n off h)[2 * q]? =
          some ⟨S3 s t, select (blockCmp s t up v i o h1 h2) (rowsFrom s t o h1 v) (rowsFrom s t (o + s) h2 v)⟩
        ∧ (piecesV s t up v i n off h)[2 * q + 1]? =
          some ⟨S3 s t, select (blockCmp s t up v i o h1 h2) (rowsFrom s t (o + s) h2 v) (rowsFrom s t o h1 v)⟩
  | 0, _, _, _, _, hq, _, _, _ => absurd hq (Nat.not_lt_zero _)
  | n + 1, off, h, 0, o, _, ho, h1, h2 => by
    rw [Nat.zero_mul, Nat.add_zero] at ho
    subst ho
    exact ⟨rfl, rfl⟩
  | n + 1, off, h, q + 1, o, hq, ho, h1, h2 => by
    have := piecesV_get s t up v i n (off + 2 * s) (by rw [Nat.succ_mul] at h; omega) q o (Nat.lt_of_succ_lt_succ hq)
      (by rw [ho, Nat.succ_mul]; omega) h1 h2
    exact this

/-- The two pieces of block `q` of the positions. -/
theorem piecesI_get (s t : ℕ) (up : ℕ → Bool) (v : FVec F (S3 32 t) .f32) (i : IVec (S3 32 t) 32) :
    ∀ (n off : ℕ) (h : off + n * (2 * s) ≤ 32) (q o : ℕ) (_ : q < n) (_ : o = off + q * (2 * s)) (h1 : o + s ≤ 32)
      (h2 : o + s + s ≤ 32),
      (piecesI s t up v i n off h)[2 * q]? =
          some ⟨S3 s t, select (blockCmp s t up v i o h1 h2) (rowsFrom s t o h1 i) (rowsFrom s t (o + s) h2 i)⟩
        ∧ (piecesI s t up v i n off h)[2 * q + 1]? =
          some ⟨S3 s t, select (blockCmp s t up v i o h1 h2) (rowsFrom s t (o + s) h2 i) (rowsFrom s t o h1 i)⟩
  | 0, _, _, _, _, hq, _, _, _ => absurd hq (Nat.not_lt_zero _)
  | n + 1, off, h, 0, o, _, ho, h1, h2 => by
    rw [Nat.zero_mul, Nat.add_zero] at ho
    subst ho
    exact ⟨rfl, rfl⟩
  | n + 1, off, h, q + 1, o, hq, ho, h1, h2 => by
    have := piecesI_get s t up v i n (off + 2 * s) (by rw [Nat.succ_mul] at h; omega) q o (Nat.lt_of_succ_lt_succ hq)
      (by rw [ho, Nat.succ_mul]; omega) h1 h2
    exact this

/-- The heights of the first `k` of `m` equal pieces. -/
theorem take_heights {s t m k : ℕ} (l : List Shape) (hl : l = List.replicate m (S3 s t)) (hk : k ≤ m) :
    ((l.take k).map fun u => if h : u.rank = (S3 32 t).rank then u.size ((0 : Fin 3).cast h.symm) else 0).sum = k * s := by
  subst hl
  rw [List.take_replicate, List.map_replicate, List.sum_replicate, Nat.min_eq_left hk]
  rfl

/-- A row of a concatenation of equal pieces is a row of one piece. -/
theorem concat_at {α : Type} {s t m : ℕ} (xs : List ((s : Shape) × (s.Idx → α))) (hc : Shape.Concatenates (xs.map (·.1)) (S3 32 t) 0)
    (hx : xs.map (·.1) = List.replicate m (S3 s t)) (k : ℕ) (x : (S3 s t).Idx → α) (hk : xs[k]? = some ⟨S3 s t, x⟩)
    (l : Fin 32) (r : Fin s) (hl : l.val = k * s + r.val) (c : Fin t) (y : Fin 128) :
    concatenate (S3 32 t) 0 xs hc (at3 l c y) = x (at3 r c y) := by
  obtain ⟨hlt, he⟩ := List.getElem?_eq_some_iff.1 hk
  have hm : xs.length = m := by have := congrArg List.length hx; simpa using this
  refine concatenate_apply_piece (t := S3 32 t) 0 xs hc (at3 l c y) k hlt (S3 s t) x he rfl (k * s) ?_ (at3 r c y) ?_ hl.symm
  · rw [List.map_take]
    exact take_heights _ hx (by omega)
  · intro b hb
    match b, hb with
    | ⟨0, _⟩, hb => exact absurd rfl hb
    | ⟨1, _⟩, _ => rfl
    | ⟨2, _⟩, _ => rfl

/-- The compare a stage makes of the rows `l` and `l + 2 ^ k`. -/
def stageCmp {t : ℕ} (p : Pair F t) (j : ℕ) (o : ℕ) (a b : Fin 32) (c : Fin t) (y : Fin 128) : BitVec 1 :=
  turn1 (upAt j o) (first1 (p.v (at3 a c y)) (p.v (at3 b c y)) (p.i (at3 a c y)) (p.i (at3 b c y)))

/-- A STAGE at the row `a = q * (2 * 2 ^ k) + r` of the lower half of block `q` and at its partner `b`, `2 ^ k` rows further. -/
theorem stage_at {t : ℕ} (p : Pair F t) (k : Fin 5) (j : ℕ) (q r : ℕ) (hr : r < 2 ^ k.val) (a b : Fin 32)
    (ha : a.val = q * (2 * 2 ^ k.val) + r) (hb : b.val = a.val + 2 ^ k.val) (c : Fin t) (y : Fin 128) :
    ((stage t p (k, j)).v (at3 a c y) = Scalar.select (stageCmp p j (q * (2 * 2 ^ k.val)) a b c y) (p.v (at3 a c y)) (p.v (at3 b c y))
      ∧ (stage t p (k, j)).i (at3 a c y) = Scalar.select (stageCmp p j (q * (2 * 2 ^ k.val)) a b c y) (p.i (at3 a c y)) (p.i (at3 b c y)))
    ∧ ((stage t p (k, j)).v (at3 b c y) = Scalar.select (stageCmp p j (q * (2 * 2 ^ k.val)) a b c y) (p.v (at3 b c y)) (p.v (at3 a c y))
      ∧ (stage t p (k, j)).i (at3 b c y) = Scalar.select (stageCmp p j (q * (2 * 2 ^ k.val)) a b c y) (p.i (at3 b c y)) (p.i (at3 a c y))) := by
  have hblocks := blocks_mul k
  have hq : q < 2 ^ (4 - k.val) := by
    by_contra hn
    have h1 : 2 ^ (4 - k.val) * (2 * 2 ^ k.val) ≤ q * (2 * 2 ^ k.val) := Nat.mul_le_mul_right _ (not_lt.1 hn)
    have := a.isLt
    omega
  have h3 : (q + 1) * (2 * 2 ^ k.val) ≤ 32 := hblocks ▸ Nat.mul_le_mul_right _ hq
  rw [Nat.succ_mul] at h3
  have h1 : q * (2 * 2 ^ k.val) + 2 ^ k.val ≤ 32 := by omega
  have h2 : q * (2 * 2 ^ k.val) + 2 ^ k.val + 2 ^ k.val ≤ 32 := by omega
  have h0 : 0 + 2 ^ (4 - k.val) * (2 * 2 ^ k.val) ≤ 32 := ((Nat.zero_add _).trans hblocks).le
  have gV := piecesV_get (2 ^ k.val) t (upAt j) p.v p.i (2 ^ (4 - k.val)) 0 h0 q _ hq (Nat.zero_add _).symm h1 h2
  have gI := piecesI_get (2 ^ k.val) t (upAt j) p.v p.i (2 ^ (4 - k.val)) 0 h0 q _ hq (Nat.zero_add _).symm h1 h2
  have e1 : q * (2 * 2 ^ k.val) = 2 * q * 2 ^ k.val := by rw [← Nat.mul_assoc, Nat.mul_comm q 2]
  have la : a.val = 2 * q * 2 ^ k.val + (⟨r, hr⟩ : Fin (2 ^ k.val)).val := by rw [ha, e1]
  have lb : b.val = (2 * q + 1) * 2 ^ k.val + (⟨r, hr⟩ : Fin (2 ^ k.val)).val := by
    rw [hb, ha, e1, Nat.add_mul, Nat.one_mul]; show _ = _ + r; omega
  have ra : ∀ {α : Type} (x : (S3 32 t).Idx → α), rowsFrom (2 ^ k.val) t (q * (2 * 2 ^ k.val)) h1 x (at3 ⟨r, hr⟩ c y) = x (at3 a c y) :=
    fun x => rowsFrom_at h1 x ⟨r, hr⟩ c y a ha
  have rb : ∀ {α : Type} (x : (S3 32 t).Idx → α),
      rowsFrom (2 ^ k.val) t (q * (2 * 2 ^ k.val) + 2 ^ k.val) h2 x (at3 ⟨r, hr⟩ c y) = x (at3 b c y) :=
    fun x => rowsFrom_at h2 x ⟨r, hr⟩ c y b (by rw [hb, ha]; show _ = _ + r; omega)
  have hcmp : blockCmp (2 ^ k.val) t (upAt j) p.v p.i (q * (2 * 2 ^ k.val)) h1 h2 (at3 ⟨r, hr⟩ c y)
      = stageCmp p j (q * (2 * 2 ^ k.val)) a b c y := by
    unfold blockCmp stageCmp
    rw [turned_apply, ra, ra, rb, rb]
  have pick : ∀ {α : Type} (w z : (S3 (2 ^ k.val) t).Idx → α),
      select (blockCmp (2 ^ k.val) t (upAt j) p.v p.i (q * (2 * 2 ^ k.val)) h1 h2) w z (at3 ⟨r, hr⟩ c y)
        = Scalar.select (stageCmp p j (q * (2 * 2 ^ k.val)) a b c y) (w (at3 ⟨r, hr⟩ c y)) (z (at3 ⟨r, hr⟩ c y)) := fun w z => by
    show Scalar.select _ _ _ = _
    rw [hcmp]
  have HV : Shape.Concatenates ((piecesV (2 ^ k.val) t (upAt j) p.v p.i (2 ^ (4 - k.val)) 0 h0).map (·.1)) (S3 32 t) 0 := by
    rw [piecesV_shapes]; exact concatenates_replicate (Nat.le_mul_of_pos_right 2 (Nat.two_pow_pos _)) (pieces_mul k)
  have HI : Shape.Concatenates ((piecesI (2 ^ k.val) t (upAt j) p.v p.i (2 ^ (4 - k.val)) 0 h0).map (·.1)) (S3 32 t) 0 := by
    rw [piecesI_shapes]; exact concatenates_replicate (Nat.le_mul_of_pos_right 2 (Nat.two_pow_pos _)) (pieces_mul k)
  refine ⟨⟨?_, ?_⟩, ⟨?_, ?_⟩⟩
  · exact (concat_at _ HV (piecesV_shapes ..) (2 * q) _ gV.1 a ⟨r, hr⟩ la c y).trans (by rw [pick, ra, rb])
  · exact (concat_at _ HI (piecesI_shapes ..) (2 * q) _ gI.1 a ⟨r, hr⟩ la c y).trans (by rw [pick, ra, rb])
  · exact (concat_at _ HV (piecesV_shapes ..) (2 * q + 1) _ gV.2 b ⟨r, hr⟩ lb c y).trans (by rw [pick, ra, rb])
  · exact (concat_at _ HI (piecesI_shapes ..) (2 * q + 1) _ gI.2 b ⟨r, hr⟩ lb c y).trans (by rw [pick, ra, rb])

/-- Every row is in the lower half of a block or the partner of one that is. -/
theorem row_split (k : Fin 5) (l : Fin 32) :
    ∃ (q r : ℕ) (a b : Fin 32), r < 2 ^ k.val ∧ a.val = q * (2 * 2 ^ k.val) + r ∧ b.val = a.val + 2 ^ k.val ∧ (l = a ∨ l = b) := by
  have hs := Nat.two_pow_pos k.val
  have hd := Nat.div_add_mod l.val (2 * 2 ^ k.val)
  have hm := Nat.mod_lt l.val (show 0 < 2 * 2 ^ k.val by omega)
  have hlt := l.isLt
  rw [Nat.mul_comm] at hd
  have hblocks := blocks_mul k
  have hq : l.val / (2 * 2 ^ k.val) < 2 ^ (4 - k.val) := by
    rw [Nat.div_lt_iff_lt_mul (by omega), hblocks]; exact hlt
  have h3 : (l.val / (2 * 2 ^ k.val) + 1) * (2 * 2 ^ k.val) ≤ 32 :=
    (Nat.mul_le_mul_right (2 * 2 ^ k.val) (Nat.succ_le_of_lt hq)).trans hblocks.le
  rw [Nat.succ_mul] at h3
  by_cases h : l.val % (2 * 2 ^ k.val) < 2 ^ k.val
  · exact ⟨l.val / (2 * 2 ^ k.val), l.val % (2 * 2 ^ k.val), l, ⟨l.val + 2 ^ k.val, by omega⟩, h, hd.symm, rfl, Or.inl rfl⟩
  · refine ⟨l.val / (2 * 2 ^ k.val), l.val % (2 * 2 ^ k.val) - 2 ^ k.val, ⟨l.val - 2 ^ k.val, by omega⟩, l, by omega, ?_, ?_, Or.inr rfl⟩
    · show l.val - 2 ^ k.val = _
      omega
    · show l.val = l.val - 2 ^ k.val + 2 ^ k.val
      omega

/-- One of the two. -/
theorem select_cases {α : Type} (P : α → Prop) (c : BitVec 1) {a b : α} (ha : P a) (hb : P b) : P (Scalar.select c a b) := by
  unfold Scalar.select
  split
  · exact ha
  · exact hb

/-- A stage's positions are positions it was given. -/
theorem stage_all {t : ℕ} (P : BitVec 32 → Prop) (p : Pair F t) (h : ∀ j, P (p.i j)) (kj : Fin 5 × ℕ) : ∀ j, P ((stage t p kj).i j) := by
  intro j
  obtain ⟨l, c, y, rfl⟩ := eq_at3 j
  obtain ⟨q, r, a, b, hr, ha, hb, hl⟩ := row_split kj.1 l
  have e := stage_at p kj.1 kj.2 q r hr a b ha hb c y
  rcases hl with hl | hl
  · rw [hl]
    show P ((stage t p (kj.1, kj.2)).i _)
    rw [e.1.2]
    exact select_cases P _ (h _) (h _)
  · rw [hl]
    show P ((stage t p (kj.1, kj.2)).i _)
    rw [e.2.2]
    exact select_cases P _ (h _) (h _)

/-- Several stages' positions are positions they were given. -/
theorem stages_all {t : ℕ} (P : BitVec 32 → Prop) (l : List (Fin 5 × ℕ)) : ∀ (p : Pair F t), (∀ j, P (p.i j)) →
    ∀ j, P ((l.foldl (stage t) p).i j) := by
  induction l with
  | nil => exact fun _ h => h
  | cons kj l ih => exact fun p h => ih _ (stage_all P p h kj)

/-- The pieces of the reversed rows: piece `k` is row `n - 1 - k`. -/
theorem backRows_get {α : Type} (t : ℕ) (x : (S3 32 (t * 2)).Idx → α) :
    ∀ (n : ℕ) (h : n ≤ 32) (k m : ℕ) (_ : m + 1 + k = n) (hm : m + 1 ≤ 32),
      (backRows t x n h)[k]? = some ⟨S3 1 t, extractStridedSlice (S3 1 t) ![m, t, 0] x (slices_S3 hm (by omega))⟩
  | 0, _, _, _, e, _ => by omega
  | n + 1, h, 0, m, e, hm => by
    obtain rfl : m = n := by omega
    rfl
  | n + 1, h, k + 1, m, e, hm => backRows_get t x n (Nat.le_of_succ_le h) k m (by omega) hm

/-- The second half at a row: the mirrored row, a column `t` further. -/
theorem back_at {α : Type} (t : ℕ) (x : (S3 32 (t * 2)).Idx → α) (l : Fin 32) (c : Fin t) (y : Fin 128) :
    back t x (at3 l c y) = x (at3 (Fin.rev l) ⟨t + c.val, by omega⟩ y) := by
  refine (concat_at (s := 1) _ _ (backRows_shapes t x 32 (le_refl 32)) l.val _
    (backRows_get t x 32 (le_refl 32) l.val (31 - l.val) (by omega) (by omega)) l 0 (by simp) c y).trans ?_
  show x _ = x _
  congr 1
  funext a
  match a with
  | ⟨0, _⟩ => exact Fin.ext (by show 31 - l.val + 0 = 32 - (l.val + 1); omega)
  | ⟨1, _⟩ => rfl
  | ⟨2, _⟩ => exact Fin.ext (Nat.zero_add _)

/-- The first half at a row. -/
theorem front_at {α : Type} (t : ℕ) (x : (S3 32 (t * 2)).Idx → α) (l : Fin 32) (c : Fin t) (y : Fin 128) :
    front t x (at3 l c y) = x (at3 l ⟨c.val, by omega⟩ y) := by
  show x _ = x _
  congr 1
  funext a
  match a with
  | ⟨0, _⟩ => exact Fin.ext (Nat.zero_add _)
  | ⟨1, _⟩ => exact Fin.ext (Nat.zero_add _)
  | ⟨2, _⟩ => exact Fin.ext (Nat.zero_add _)

/-- A halving's positions are positions it was given. -/
theorem halved_all {t : ℕ} (P : BitVec 32 → Prop) (p : Pair F (t * 2)) (h : ∀ j, P (p.i j)) : ∀ j, P ((halved t p).i j) := by
  intro j
  obtain ⟨l, c, y, rfl⟩ := eq_at3 j
  show P (Scalar.select _ _ _)
  rw [front_at, back_at]
  exact select_cases P _ (h _) (h _)

/-- The merges' positions are positions they were given. -/
theorem merged_all (P : BitVec 32 → Prop) : ∀ (m : ℕ) (p : Pair F (2 ^ m)), (∀ j, P (p.i j)) → ∀ j, P ((merged m p).i j)
  | 0, _, h => h
  | m + 1, p, h => merged_all P m _ (stages_all P _ _ (halved_all P p h))

/-- THE SELECTION's positions are positions it was given. -/
theorem selected_all (P : BitVec 32 → Prop) (p : Pair F 256) (h : ∀ j, P (p.i j)) : ∀ j, P ((selected p).i j) :=
  merged_all P 8 _ (stages_all P _ _ h)

end Cert.Proof.Net

end
-- ==== Proof.OutAt.lean ====
/-
  The grouping as one function of its arguments — the element at batch `b`, channel `ch`, group `g`, member `k` — and the
  general facts by which a printed `take_along_axis` is read at an index: the batched gather, its in-range mask.
-/
module

public import Idealize.ShloMosaic.PureOps.ShapeOps
public import Idealize.ShloMosaic.PureOps.Contract
public import Idealize.ShloMosaic.PureOps.Vector
public import Idealize.ShloMosaic.Lib.Pipeline.Value

@[expose] public section

set_option maxRecDepth 16384

noncomputable section

namespace Cert.Proof.Out

open Idealize.ShloMosaic

variable {α : Type} {n0 n1 n2 n3 : ℕ}

/-- The index with the given coordinates, rank 3. -/
def at3 (a : Fin n0) (b : Fin n1) (c : Fin n2) : (⟨3, ![n0, n1, n2]⟩ : Shape).Idx :=
  fun | ⟨0, _⟩ => a | ⟨1, _⟩ => b | ⟨2, _⟩ => c

/-- The index with the given coordinates, rank 4. -/
def at4 (a : Fin n0) (b : Fin n1) (c : Fin n2) (e : Fin n3) : (⟨4, ![n0, n1, n2, n3]⟩ : Shape).Idx :=
  fun | ⟨0, _⟩ => a | ⟨1, _⟩ => b | ⟨2, _⟩ => c | ⟨3, _⟩ => e

/-- A rank-3 index is its coordinates. -/
theorem at3_eta (y : (⟨3, ![n0, n1, n2]⟩ : Shape).Idx) : at3 (y 0) (y 1) (y 2) = y := by
  funext a
  match a with
  | ⟨0, _⟩ => rfl
  | ⟨1, _⟩ => rfl
  | ⟨2, _⟩ => rfl

/-- Two rank-3 indices with equal coordinates are equal. -/
theorem at3_congr {a a' : Fin n0} {b b' : Fin n1} {c c' : Fin n2} (ha : a.val = a'.val) (hb : b.val = b'.val) (hc : c.val = c'.val) :
    at3 a b c = at3 a' b' c' := by
  rw [Fin.ext ha, Fin.ext hb, Fin.ext hc]

/-- The row that a word names, among 8192. -/
def pick (w : BitVec 32) : Fin 8192 := ⟨w.toNat % 8192, Nat.mod_lt _ (by omega)⟩

/-- THE GROUPING: its first three channels are the picked point less the group's centre, the other 128 the picked
    point's features. -/
def outAt {F : FTy → Type} [FloatOps F] (pt : (⟨3, ![4, 3, 8192]⟩ : Shape).Idx → F .f32) (np : (⟨3, ![4, 3, 1024]⟩ : Shape).Idx → F .f32)
    (fe : (⟨3, ![4, 128, 8192]⟩ : Shape).Idx → F .f32) (ix : (⟨3, ![4, 1024, 32]⟩ : Shape).Idx → BitVec 32) :
    (⟨4, ![4, 131, 1024, 32]⟩ : Shape).Idx → F .f32 := fun y =>
  if h : (y 1).val < 3 then
    FloatOps.subf (pt (at3 (y 0) ⟨(y 1).val, h⟩ (pick (ix (at3 (y 0) (y 2) (y 3)))))) (np (at3 (y 0) ⟨(y 1).val, h⟩ (y 2)))
  else fe (at3 (y 0) ⟨(y 1).val - 3, by have h1 : (y 1).val < 131 := (y 1).isLt; omega⟩ (pick (ix (at3 (y 0) (y 2) (y 3)))))

/-! ## `take_along_axis` along the last axis -/

/-- The dimension numbers of a gather that takes, in each batch, whole columns along the last axis. -/
def alongDims (C : ℕ) (wf : GatherDims.WF ⟨3, ![4, C, 8192]⟩ ⟨4, ![4, 1024, 32, 1]⟩ ⟨4, ![4, C, 1024, 32]⟩ [1] [2] [0] [2] [0] 3 ![1, C, 1]) :
    GatherDims ⟨3, ![4, C, 8192]⟩ ⟨4, ![4, 1024, 32, 1]⟩ ⟨4, ![4, C, 1024, 32]⟩ where
  offsetDims := [1]
  collapsedSliceDims := [2]
  operandBatchingDims := [0]
  startIndicesBatchingDims := [0]
  startIndexMap := [2]
  indexVectorDim := 3
  sliceSizes := ![1, C, 1]
  wf := wf

/-- Axis 1 is not the axis 0. -/
theorem ne_1_0 : (1 : Fin 3) ∉ ([0] : List (Fin 3)) := by decide
/-- Axis 1 is not the axis 2. -/
theorem ne_1_2 : (1 : Fin 3) ∉ ([2] : List (Fin 3)) := by decide
/-- Axis 2 is not the axis 0. -/
theorem ne_2_0 : (2 : Fin 3) ∉ ([0] : List (Fin 3)) := by decide

/-- The gather read at `(b, c, g, k)`: the operand at batch `b`, channel `c`, and the start index of `(b, g, k)`, read
    signed and clamped. -/
theorem gather_along {C w : ℕ} (wf : GatherDims.WF ⟨3, ![4, C, 8192]⟩ ⟨4, ![4, 1024, 32, 1]⟩ ⟨4, ![4, C, 1024, 32]⟩ [1] [2] [0] [2] [0] 3 ![1, C, 1])
    (x : (⟨3, ![4, C, 8192]⟩ : Shape).Idx → α) (idx : IVec ⟨4, ![4, 1024, 32, 1]⟩ w) (y : (⟨4, ![4, C, 1024, 32]⟩ : Shape).Idx) :
    Host.gather (alongDims C wf) x idx y
      = x (at3 (y 0) (y 1) ⟨min (idx (at4 (y 0) (y 2) (y 3) 0)).toInt.toNat 8191, by omega⟩) := by
  unfold Host.gather
  congr 1
  funext a
  refine Fin.ext ?_
  show (alongDims C wf).start y idx a + (alongDims C wf).batchCoord y a + (alongDims C wf).offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ (alongDims C wf).operandBatchingDims := List.mem_singleton.mpr rfl
  have m2 : (2 : Fin 3) ∈ (alongDims C wf).startIndexMap := List.mem_singleton.mpr rfl
  have c2 : (2 : Fin 3) ∈ (alongDims C wf).collapsedSliceDims := List.mem_singleton.mpr rfl
  have n10 : (1 : Fin 3) ∉ (alongDims C wf).operandBatchingDims := ne_1_0
  have n12 : (1 : Fin 3) ∉ (alongDims C wf).startIndexMap := ne_1_2
  have c12 : (1 : Fin 3) ∉ (alongDims C wf).collapsedSliceDims := ne_1_2
  have n20 : (2 : Fin 3) ∉ (alongDims C wf).operandBatchingDims := ne_2_0
  rcases h012 with rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · have hk : (1 : Fin 3) ∈ (alongDims C wf).sKept := (GatherDims.mem_sKept _ _).mpr ⟨c12, n10⟩
    rw [GatherDims.batchCoord_eq_zero _ _ _ n10]
    unfold GatherDims.start
    rw [dif_neg n12]
    simp only [Nat.zero_add]
    unfold GatherDims.offCoord
    rw [dif_pos hk]
    rfl
  · rw [GatherDims.batchCoord_eq_zero _ _ _ n20, GatherDims.offCoord_eq_zero _ _ _ (fun h => ((GatherDims.mem_sKept _ _).mp h).1 c2)]
    simp only [Nat.add_zero]
    unfold GatherDims.start
    rw [dif_pos m2]
    have hsi : (alongDims C wf).siIdx y ⟨List.idxOf (2 : Fin 3) (alongDims C wf).startIndexMap,
        List.idxOf_lt_length_iff.2 (List.mem_singleton.mpr rfl)⟩ = at4 (y 0) (y 2) (y 3) 0 := by
      funext b; refine Fin.ext ?_
      match b with
      | ⟨0, _⟩ => rfl
      | ⟨1, _⟩ => rfl
      | ⟨2, _⟩ => rfl
      | ⟨3, _⟩ => rfl
    rw [hsi]
    rfl

/-- A conjunction of bits that are all one is one. -/
theorem reduce_ones {s t u : Shape} {axes : List (Fin s.rank)} (x : s.Idx → BitVec 1) (init : u.Idx → BitVec 1) (h : s.ReducesTo axes t)
    (hu : 0 < u.numel) (hx : ∀ i, x i = 1#1) (hi : ∀ i, init i = 1#1) (j : t.Idx) : Host.reduce IntOp.andi x init h hu j = 1#1 := by
  unfold Host.reduce
  rw [hi]
  generalize (List.finRange s.numel).filter (fun n => h.drop (s.rowMajor.symm n) = j) = l
  induction l with
  | nil => rfl
  | cons a l ih => rw [List.foldl_cons, hx]; exact ih

/-- A word below 8192 is non-negative as a signed word, -/
theorem cmpi_slt_zero {w : BitVec 32} (h : w.toNat < 8192) : IntOp.cmpi .slt w 0#32 = 0#1 := by
  have : w.slt 0#32 = false := by rw [BitVec.slt_eq_decide, BitVec.toInt_eq_toNat_cond]; simp; omega
  simp only [IntOp.cmpi, this]; rfl

/-- at least zero, -/
theorem cmpi_sge_zero {w : BitVec 32} (h : w.toNat < 8192) : IntOp.cmpi .sge w 0#32 = 1#1 := by
  have : (0#32).sle w = true := by rw [BitVec.sle_eq_decide, BitVec.toInt_eq_toNat_cond w]; simp; omega
  simp only [IntOp.cmpi, this]; rfl

/-- and at most 8191; -/
theorem cmpi_sle_last {w : BitVec 32} (h : w.toNat < 8192) : IntOp.cmpi .sle w 8191#32 = 1#1 := by
  have : w.sle 8191#32 = true := by
    rw [BitVec.sle_eq_decide, BitVec.toInt_eq_toNat_cond w, BitVec.toInt_eq_toNat_cond 8191#32]; simp; omega
  simp only [IntOp.cmpi, this]; rfl

/-- read signed and clamped, it is itself. -/
theorem clamp_self {w : BitVec 32} (h : w.toNat < 8192) : min w.toInt.toNat 8191 = w.toNat % 8192 := by
  rw [BitVec.toInt_eq_toNat_cond]
  have : 2 * w.toNat < 2 ^ 32 := by omega
  rw [if_pos this, Nat.mod_eq_of_lt h]; simp; omega

/-- A word in `[0, 8192)`, as the precondition states it, is below 8192 read unsigned. -/
theorem lt_of_range {v : BitVec 32} (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Out

end
-- ==== Proof.SelI.lean ====
/-
  The result of the TensorCore call, element by element: the selection of the block of 128 centres that the element is in,
  moved to the rows of its batch; every word it holds names a row of its own batch, so the index words of the SparseCore
  call are in range whatever the arguments are.
-/
module

public import proofs.«01_k».proof.Proof.ScMainI
public import proofs.«01_k».proof.Proof.NetRead
public import proofs.«01_k».proof.Proof.OutAt
public import Idealize.ShloMosaic.Lib.Pipeline.ValueKit.Geometry

@[expose] public section

set_option maxRecDepth 16384

noncomputable section

namespace Cert.Proof.ScI

open Cert.KernelIdeal Cert.KernelIdeal.Gen Cert.Proof.Out

open Idealize.ShloMosaic
open Idealize.ShloMosaic.StableHlo
open Idealize.ShloMosaic.TcCoe

variable {F : FTy → Type} [FloatOps F]

/-! ## The selection of one block -/

/-- The positions selected for one block of centres, read at rank `r` and centre `y`. -/
def chosen (v0 : Vec F S1x8192x8 .f32) (v2 : Vec F S1x8x128 .f32) (v4 : Vec F S1x8192x1 .f32) (r : Fin 32) (y : Fin 128) : BitVec 32 :=
  (Net.selected ⟨dist v0 v2 v4, posn⟩).i (Net.at3 r 0 y)

/-- What the body stores, read at rank `r` and centre `y`. -/
theorem stored_at (b : BitVec 32) (v0 : Vec F S1x8192x8 .f32) (v2 : Vec F S1x8x128 .f32) (v4 : Vec F S1x8192x1 .f32) (r : Fin 32) (y : Fin 128) :
    stored b v0 v2 v4 (at4 0 0 r y : S1x1x32x128.Idx) = IntOp.addi (chosen v0 v2 v4 r y) (IntOp.muli b 8192#32) := by
  unfold stored chosen
  refine (shapeCast_apply (s := S32x128) (t := S1x1x32x128) _ _ (at4 0 0 r y) (ix2 r y) ?_).trans ?_
  · rw [Shape.rowMajor_val_two, Shape.rowMajor_val_four]
    show r.val * 128 + y.val = ((0 * 1 + 0) * 32 + r.val) * 128 + y.val
    omega
  · rw [Tab.selected_eq]
    refine congrArg₂ IntOp.addi (shapeCast_apply (s := S32x1x128) (t := S32x128) _ _ (ix2 r y) (Net.at3 r 0 y) ?_) rfl
    rw [Shape.rowMajor_val_three, Shape.rowMajor_val_two]
    show (r.val * 1 + 0) * 128 + y.val = r.val * 128 + y.val
    omega

/-- The position at row `l` and column `c`. -/
theorem posn_at (l : Fin 32) (c : Fin 256) (y : Fin 128) : posn (Net.at3 l c y) = BitVec.ofNat 32 (l.val * 256 + c.val) := by
  have hl := l.isLt; have hc := c.isLt
  apply BitVec.eq_of_toNat_eq
  unfold posn
  show (IntOp.addi (IntOp.muli (iota .tc S32x256x128 32 [0] iota_S32x256x128_d0_w32 _) 256#32) (iota .tc S32x256x128 32 [1] iota_S32x256x128_d1_w32 _)).toNat = _
  simp only [iota, IntOp.addi, IntOp.muli, BitVec.toNat_add, BitVec.toNat_mul, BitVec.toNat_ofNat, Nat.reducePow, Nat.reduceMod, List.foldl_cons, List.foldl_nil]
  show (((0 * 32 + l.val) % 4294967296 * 256) % 4294967296 + (0 * 256 + c.val) % 4294967296) % 4294967296 = (l.val * 256 + c.val) % 4294967296
  omega

/-- A selected position is one of the 8192. -/
theorem chosen_lt (v0 : Vec F S1x8192x8 .f32) (v2 : Vec F S1x8x128 .f32) (v4 : Vec F S1x8192x1 .f32) (r : Fin 32) (y : Fin 128) :
    (chosen v0 v2 v4 r y).toNat < 8192 := by
  unfold chosen
  refine Net.selected_all (fun w => w.toNat < 8192) _ (fun j => ?_) _
  obtain ⟨l, c, y, rfl⟩ := Net.eq_at3 j
  have hl := l.isLt; have hc := c.isLt
  show (posn (Net.at3 l c y)).toNat < 8192
  rw [posn_at, BitVec.toNat_ofNat]
  omega

/-! ## The call's result -/

/-- The grid point of batch `b` and block `q`. -/
def pointOf (b : Fin 4) (q : Fin 8) : Fin cfg0.N := ⟨b.val * 8 + q.val, by have := b.isLt; have := q.isLt; show _ < grid0.N; rw [N_0]; omega⟩

/-- The grid step of a batch and a group of centres has these coordinates. -/
theorem coords_pointOf : ∀ (b : Fin 4) (q : Fin 8), (grid0.coords (pointOf b q) 0).val = b.val ∧ (grid0.coords (pointOf b q) 1).val = q.val := by
  decide +kernel

/-- A grid step is the one of its coordinates. -/
theorem pointOf_coords : ∀ t : Fin grid0.N, pointOf ⟨(grid0.coords t 0).val, (grid0.coords t 0).isLt⟩ ⟨(grid0.coords t 1).val, (grid0.coords t 1).isLt⟩ = t := by
  decide +kernel

/-- A grid step's block of the selection is that of its batch and its group of centres. -/
theorem index0_3 : ∀ t : Fin grid0.N, win0_3.index t = ![(grid0.coords t 0).val, (grid0.coords t 1).val, 0, 0] := by decide +kernel

variable (V : (c : Dev nD) → (b : Ref sig .tc) → Buf (Elt F) ((c : Thread nD τ).loc b))
variable (B : ℕ)

/-- The call's result, element by element: batch `i 0`, block `i 1`, rank `i 2`, centre `i 3` of the block. -/
def selAt (c : Dev nD) : IVec S4x8x32x128 32 := fun i => outBlk V c (pointOf (i 0) (i 1)) (at4 0 0 (i 2) (i 3) : S1x1x32x128.Idx)

/-- The selection, as the steps leave it, is read off block by block. -/
theorem sel_eq (c : Dev nD) : sel V B c = selAt V c := by
  unfold sel
  refine (dat V B c).arrAt_eq_of_covers 3 _ (by decide +kernel) fun t hf y => ?_
  blk_simp
  have e0 : ((win0_3.blk t).view.emb y 0 : ℕ) = (grid0.coords t 0).val := by blk_simp [index0_3]
  have e1 : ((win0_3.blk t).view.emb y 1 : ℕ) = (grid0.coords t 1).val := by blk_simp [index0_3]
  have e2 : ((win0_3.blk t).view.emb y 2 : ℕ) = (y 2).val := by blk_simp [index0_3]
  have e3 : ((win0_3.blk t).view.emb y 3 : ℕ) = (y 3).val := by blk_simp [index0_3]
  have ht : pointOf ((win0_3.blk t).view.emb y 0) ((win0_3.blk t).view.emb y 1) = t :=
    (congrArg₂ pointOf (Fin.ext e0 : _ = (⟨(grid0.coords t 0).val, (grid0.coords t 0).isLt⟩ : Fin 4)) (Fin.ext e1 : _ = (⟨(grid0.coords t 1).val, (grid0.coords t 1).isLt⟩ : Fin 8))).trans (pointOf_coords t)
  show outBlk V c t y = outBlk V c (pointOf ((win0_3.blk t).view.emb y 0) ((win0_3.blk t).view.emb y 1)) (at4 0 0 ((win0_3.blk t).view.emb y 2) ((win0_3.blk t).view.emb y 3) : S1x1x32x128.Idx)
  rw [ht]
  refine congrArg (outBlk V c t) (funext fun a => Fin.ext ?_)
  match a with
  | ⟨0, _⟩ => have : (y 0).val < 1 := (y 0).isLt; show (y 0).val = 0; omega
  | ⟨1, _⟩ => have : (y 1).val < 1 := (y 1).isLt; show (y 1).val = 0; omega
  | ⟨2, _⟩ => exact e2.symm
  | ⟨3, _⟩ => exact e3.symm

/-! ## The index words -/

variable (m : (ℓ : Loc nD τ sig) → Buf (Elt F) ℓ) (d : Dev nD)

/-- The array of index words: the call's result, its ranks after its centres, at its position. -/
theorem V1_ix : (V1 m d ix' : S131072.Idx → BitVec 32) = shapeCast S131072
    (transpose S4x8x128x32 [0, 1, 3, 2] (selAt (VAr m) d) transposes_S4x8x32x128_S4x8x128x32_0_1_3_2) shapeCasts_S4x8x128x32_S131072 := by
  rw [← sel_eq (VAr m) wB d, ← VB_sl]
  unfold V1
  after_results_simp
  rfl

/-- The shape of the positions: batch, centre, rank. -/
abbrev SIx : Shape := ⟨3, ![4, 1024, 32]⟩

/-- The positions that the TensorCore call selects. -/
def ixA : IVec SIx 32 := fun j =>
  chosen (iblk (VAr m) d 0 (pointOf (j 0) ⟨(j 1).val / 128, by have : (j 1).val < 1024 := (j 1).isLt; omega⟩))
    (iblk (VAr m) d 1 (pointOf (j 0) ⟨(j 1).val / 128, by have : (j 1).val < 1024 := (j 1).isLt; omega⟩))
    (iblk (VAr m) d 2 (pointOf (j 0) ⟨(j 1).val / 128, by have : (j 1).val < 1024 := (j 1).isLt; omega⟩))
    (j 2) ⟨(j 1).val % 128, Nat.mod_lt _ (by omega)⟩

/-- Every selected position is one of the 8192. -/
theorem ixA_lt (j : SIx.Idx) : (ixA m d j).toNat < 8192 := chosen_lt ..

/-- Adding a batch's first row to a word below 8192. -/
theorem word_add {w : BitVec 32} (h : w.toNat < 8192) (a : Fin 4) {n : ℕ} (hn : n = a.val) :
    (IntOp.addi w (IntOp.muli (BitVec.ofNat 32 n) 8192#32)).toNat = w.toNat + a.val * 8192 := by
  subst hn
  have ha := a.isLt
  simp only [IntOp.addi, IntOp.muli, BitVec.toNat_add, BitVec.toNat_mul, BitVec.toNat_ofNat, Nat.reducePow, Nat.reduceMod]
  omega

/-- The word at batch `b`, group `g`, member `k` is the position there moved to the batch's rows. -/
theorem ix_word (b : Fin 4) (g : Fin 1024) (k : Fin 32) (j : S131072.Idx) (hj : (j 0).val = (b.val * 1024 + g.val) * 32 + k.val) :
    ((XM m).ix d j).toNat = (ixA m d (at3 b g k)).toNat + b.val * 8192 := by
  have hg := g.isLt
  have e : (XM m).ix d j = selAt (VAr m) d (at4 b ⟨g.val / 128, by omega⟩ k ⟨g.val % 128, Nat.mod_lt _ (by omega)⟩ : S4x8x32x128.Idx) := by
    refine (congrFun (V1_ix m d) j).trans ((shapeCast_apply _ _ _ (at4 b ⟨g.val / 128, by omega⟩ ⟨g.val % 128, Nat.mod_lt _ (by omega)⟩ k : S4x8x128x32.Idx) ?_).trans (transpose_apply _ _ _ _ _ fun a => ?_))
    · rw [Shape.rowMajor_val_four, Shape.rowMajor_val_one]
      show ((b.val * 8 + g.val / 128) * 128 + g.val % 128) * 32 + k.val = (j 0).val
      omega
    · match a with
      | ⟨0, _⟩ => rfl
      | ⟨1, _⟩ => rfl
      | ⟨2, _⟩ => rfl
      | ⟨3, _⟩ => rfl
  rw [e]
  unfold selAt outBlk
  refine (congrArg BitVec.toNat (stored_at _ _ _ _ k ⟨g.val % 128, Nat.mod_lt _ (by omega)⟩)).trans ?_
  exact word_add (chosen_lt ..) b (coords_pointOf b ⟨g.val / 128, by omega⟩).1

/-- Every word names a row of its own batch. -/
theorem inBatch : InBatch (XM m) := by
  intro d j
  have hj : (j 0).val < 131072 := (j 0).isLt
  have h := ix_word m d ⟨(j 0).val / 32768, by omega⟩ ⟨(j 0).val / 32 % 1024, by omega⟩ ⟨(j 0).val % 32, by omega⟩ j (by show _ = ((j 0).val / 32768 * 1024 + (j 0).val / 32 % 1024) * 32 + (j 0).val % 32; omega)
  have h' := ixA_lt m d (at3 ⟨(j 0).val / 32768, by omega⟩ ⟨(j 0).val / 32 % 1024, by omega⟩ ⟨(j 0).val % 32, by omega⟩)
  rw [h]
  show (_ + (j 0).val / 32768 * 8192) / 8192 = _
  omega

/-! ## The arguments, unchanged up to the SparseCore call and to the end -/

/-- The TensorCore call leaves the first argument as it was. -/
theorem VB_arg0 : VB m d (Proc.devRef .tc main_arg0) = m (d, Proc.devRef .tc main_arg0) := by
  rw [VB_other m d _ (by decide)]
  unfold VA
  after_results_simp
  rfl
/-- Before the SparseCore call, the first argument is as it was given. -/
theorem V1_arg0 : V1 m d (Proc.devRef .tc main_arg0) = m (d, Proc.devRef .tc main_arg0) := by
  unfold V1
  after_results_simp
  exact VB_arg0 m d
/-- The TensorCore call leaves the second argument as it was. -/
theorem VB_arg1 : VB m d (Proc.devRef .tc main_arg1) = m (d, Proc.devRef .tc main_arg1) := by
  rw [VB_other m d _ (by decide)]
  unfold VA
  after_results_simp
  rfl
/-- Before the SparseCore call, the second argument is as it was given. -/
theorem V1_arg1 : V1 m d (Proc.devRef .tc main_arg1) = m (d, Proc.devRef .tc main_arg1) := by
  unfold V1
  after_results_simp
  exact VB_arg1 m d
/-- The TensorCore call leaves the third argument as it was. -/
theorem VB_arg2 : VB m d (Proc.devRef .tc main_arg2) = m (d, Proc.devRef .tc main_arg2) := by
  rw [VB_other m d _ (by decide)]
  unfold VA
  after_results_simp
  rfl
/-- Before the SparseCore call, the third argument is as it was given. -/
theorem V1_arg2 : V1 m d (Proc.devRef .tc main_arg2) = m (d, Proc.devRef .tc main_arg2) := by
  unfold V1
  after_results_simp
  exact VB_arg2 m d

/-- At the end, the first argument is as it was given. -/
theorem V3_arg0 : V3 m d (Proc.devRef .tc main_arg0) = m (d, Proc.devRef .tc main_arg0) := by
  unfold V3
  after_results_simp
  rw [V2_other m d _ (by decide) (by decide)]
  exact V1_arg0 m d
/-- At the end, the second argument is as it was given. -/
theorem V3_arg1 : V3 m d (Proc.devRef .tc main_arg1) = m (d, Proc.devRef .tc main_arg1) := by
  unfold V3
  after_results_simp
  rw [V2_other m d _ (by decide) (by decide)]
  exact V1_arg1 m d
/-- At the end, the third argument is as it was given. -/
theorem V3_arg2 : V3 m d (Proc.devRef .tc main_arg2) = m (d, Proc.devRef .tc main_arg2) := by
  unfold V3
  after_results_simp
  rw [V2_other m d _ (by decide) (by decide)]
  exact V1_arg2 m d

end Cert.Proof.ScI

end
-- ==== Proof.ScValI.lean ====
/-
  The values: the operands of the SparseCore call as functions of @main's arguments, and the program's result element by
  element, the grouping `Out.outAt`.
-/
module

public import proofs.«01_k».proof.Proof.SelI

@[expose] public section

set_option maxRecDepth 16384

noncomputable section

namespace Cert.Proof.ScI

open Cert.KernelIdeal Cert.KernelIdeal.Gen Cert.Proof.Out

open Idealize.ShloMosaic
open Idealize.ShloMosaic.StableHlo

variable {F : FTy → Type} [FloatOps F]
variable (m : (ℓ : Loc nD τ sig) → Buf (Elt F) ℓ) (d : Dev nD)

/-! ## The operands of the call -/

/-- The feature table. -/
theorem V1_fe : (V1 m d fe' : S32768x128.Idx → F .f32) = shapeCast S32768x128
    (transpose S4x8192x128 [0, 2, 1] (m (d, Proc.devRef .tc main_arg2) : S4x128x8192.Idx → F .f32) transposes_S4x128x8192_S4x8192x128_0_2_1) shapeCasts_S4x8192x128_S32768x128 := by
  unfold V1
  after_results_simp
  rw [VB_arg2]
  rfl
/-- The source points' coordinates. -/
theorem V1_pt : (V1 m d pt' : S98304.Idx → F .f32) = shapeCast S98304 (m (d, Proc.devRef .tc main_arg0) : S4x3x8192.Idx → F .f32) shapeCasts_S4x3x8192_S98304 := by
  unfold V1
  after_results_simp
  rw [VB_arg0]
  rfl
/-- The query points' coordinates. -/
theorem V1_np : (V1 m d np' : S12288.Idx → F .f32) = shapeCast S12288 (m (d, Proc.devRef .tc main_arg1) : S4x3x1024.Idx → F .f32) shapeCasts_S4x3x1024_S12288 := by
  unfold V1
  after_results_simp
  rw [VB_arg1]
  rfl

/-! ## What the call brings back, read at batch, group and member -/

/-- The row of the first result. -/
theorem rows_at (b : Fin 4) (g : Fin 1024) (k : Fin 32) (ch : Fin 128) (x : S131072x128.Idx) (h0 : (x 0).val = (b.val * 1024 + g.val) * 32 + k.val) (h1 : x 1 = ch) :
    rowsV (XM m) d x = (m (d, Proc.devRef .tc main_arg2) : S4x128x8192.Idx → F .f32) (at3 b ch (pick (ixA m d (at3 b g k)))) := by
  have hw := ix_word m d b g k (ix1 (x 0)) h0
  have hb := b.isLt
  have hlt := ixA_lt m d (at3 b g k)
  refine (congrFun (V1_fe m d) _).trans ((shapeCast_apply _ _ _ (at3 b (pick (ixA m d (at3 b g k))) ch : S4x8192x128.Idx) ?_).trans (transpose_apply _ _ _ _ _ fun a => ?_))
  · rw [Shape.rowMajor_val_three, Shape.rowMajor_val_two, h1]
    show ((b.val * 8192 + (ixA m d (at3 b g k)).toNat % 8192) * 128 + ch.val) = ((XM m).ix d (ix1 (x 0))).toNat % 32768 * 128 + ch.val
    rw [hw]
    omega
  · match a with
    | ⟨0, _⟩ => rfl
    | ⟨1, _⟩ => rfl
    | ⟨2, _⟩ => rfl

/-- The entry of the second result. -/
theorem gp_at (b : Fin 4) (g : Fin 1024) (k : Fin 32) (ch : Fin 3) (x : S393216.Idx) (h0 : (x 0).val = ((ch.val * 4 + b.val) * 1024 + g.val) * 32 + k.val) :
    gpV (XM m) d x = FloatOps.subf ((m (d, Proc.devRef .tc main_arg0) : S4x3x8192.Idx → F .f32) (at3 b ch (pick (ixA m d (at3 b g k)))))
      ((m (d, Proc.devRef .tc main_arg1) : S4x3x1024.Idx → F .f32) (at3 b ch g)) := by
  have hb := b.isLt; have hg := g.isLt; have hk := k.isLt; have hc := ch.isLt
  have hx : (x 0).val < 393216 := (x 0).isLt
  have hlt := ixA_lt m d (at3 b g k)
  have hw := ix_word m d b g k (ix1 ⟨(x 0).val % 131072, by omega⟩) (by show (x 0).val % 131072 = _; omega)
  refine congrArg₂ FloatOps.subf ((congrFun (V1_pt m d) _).trans (shapeCast_apply (s := S4x3x8192) _ _ _ _ ?_)) ((congrFun (V1_np m d) _).trans (shapeCast_apply (s := S4x3x1024) _ _ _ _ ?_))
  · rw [Shape.rowMajor_val_three, Shape.rowMajor_val_one]
    show ((b.val * 3 + ch.val) * 8192 + (ixA m d (at3 b g k)).toNat % 8192)
      = (x 0).val % 131072 / 32768 * 24576 + (x 0).val / 131072 * 8192 + ((XM m).ix d (ix1 ⟨(x 0).val % 131072, by omega⟩)).toNat % 8192
    rw [hw]
    omega
  · rw [Shape.rowMajor_val_three, Shape.rowMajor_val_one]
    show ((b.val * 3 + ch.val) * 1024 + g.val) = (x 0).val % 131072 / 32768 * 3072 + (x 0).val / 131072 * 1024 + (x 0).val % 131072 / 32 % 1024
    omega

/-! ## The host operations after the call -/

/-- The host operations after the call but the last. -/
abbrev opsTail : List (HloOp τ sig (Elt F)) := opsPost.take 4

/-- The result is the coordinates and the features, joined along the channels. -/
theorem V3_out : (V3 m d (Proc.devRef .tc main_v23) : S4x131x1024x32.Idx → F .f32)
    = concatenate S4x131x1024x32 1 [⟨S4x3x1024x32, after opsTail (V2 m d) (Proc.devRef .tc main_v22)⟩, ⟨S4x128x1024x32, after opsTail (V2 m d) (Proc.devRef .tc main_v20)⟩]
        concatenates_S4x3x1024x32_S4x128x1024x32_S4x131x1024x32_d1 := by
  unfold V3
  simp only [opsTail, opsPost, List.take, after_cons, after_nil]
  exact binary_result ..

/-- The coordinates' part is the call's second result with its axes moved. -/
theorem tail_22 : (after opsTail (V2 m d) (Proc.devRef .tc main_v22) : S4x3x1024x32.Idx → F .f32)
    = transpose S4x3x1024x32 [1, 0, 2, 3] (shapeCast S3x4x1024x32 (gpV (XM m) d) shapeCasts_S393216_S3x4x1024x32) transposes_S3x4x1024x32_S4x3x1024x32_1_0_2_3 := by
  simp only [opsTail, opsPost, List.take]
  after_results_simp
  rw [V2_gp]
  rfl

/-- The features' part is the call's first result with its axes moved. -/
theorem tail_20 : (after opsTail (V2 m d) (Proc.devRef .tc main_v20) : S4x128x1024x32.Idx → F .f32)
    = transpose S4x128x1024x32 [0, 3, 1, 2] (shapeCast S4x1024x32x128 (rowsV (XM m) d) shapeCasts_S131072x128_S4x1024x32x128) transposes_S4x1024x32x128_S4x128x1024x32_0_3_1_2 := by
  simp only [opsTail, opsPost, List.take]
  after_results_simp
  rw [V2_rw]
  rfl

/-- THE VALUE: the program's result is the grouping of its arguments. -/
theorem V3_val : (V3 m d (Proc.devRef .tc main_v23) : S4x131x1024x32.Idx → F .f32)
    = outAt (F := F) (m (d, Proc.devRef .tc main_arg0)) (m (d, Proc.devRef .tc main_arg1)) (m (d, Proc.devRef .tc main_arg2)) (ixA m d) := by
  rw [V3_out, tail_22, tail_20]
  funext (y : S4x131x1024x32.Idx)
  unfold outAt
  by_cases h : (y 1).val < 3
  · rw [dif_pos h]
    refine (concatenate_pair_apply_left (t := S4x131x1024x32) (s₁ := S4x3x1024x32) (s₂ := S4x128x1024x32) 1 _ _ _ _ rfl (at4 (y 0) ⟨(y 1).val, h⟩ (y 2) (y 3) : S4x3x1024x32.Idx) fun b => ?_).trans ?_
    · match b with
      | ⟨0, _⟩ => rfl
      | ⟨1, _⟩ => rfl
      | ⟨2, _⟩ => rfl
      | ⟨3, _⟩ => rfl
    · refine (transpose_apply _ _ _ _ (at4 ⟨(y 1).val, h⟩ (y 0) (y 2) (y 3) : S3x4x1024x32.Idx) fun a => ?_).trans ?_
      · match a with
        | ⟨0, _⟩ => rfl
        | ⟨1, _⟩ => rfl
        | ⟨2, _⟩ => rfl
        | ⟨3, _⟩ => rfl
      have h0 : (y 0).val < 4 := (y 0).isLt
      have h2 : (y 2).val < 1024 := (y 2).isLt
      have h3 : (y 3).val < 32 := (y 3).isLt
      refine (shapeCast_apply _ _ _ (ix1 ⟨(((y 1).val * 4 + (y 0).val) * 1024 + (y 2).val) * 32 + (y 3).val, by omega⟩ : S393216.Idx) ?_).trans (gp_at m d _ _ _ _ _ rfl)
      rw [Shape.rowMajor_val_one, Shape.rowMajor_val_four]
      rfl
  · rw [dif_neg h]
    have h1 : (y 1).val < 131 := (y 1).isLt
    refine (concatenate_pair_apply_right (t := S4x131x1024x32) (s₁ := S4x3x1024x32) (s₂ := S4x128x1024x32) 1 _ _ _ _ rfl rfl (at4 (y 0) ⟨(y 1).val - 3, by omega⟩ (y 2) (y 3) : S4x128x1024x32.Idx) (fun b hb => ?_) ?_).trans ?_
    · match b with
      | ⟨0, _⟩ => rfl
      | ⟨1, _⟩ => exact absurd rfl hb
      | ⟨2, _⟩ => rfl
      | ⟨3, _⟩ => rfl
    · show (y 1).val - 3 + 3 = (y 1).val
      omega
    · refine (transpose_apply _ _ _ _ (at4 (y 0) (y 2) (y 3) ⟨(y 1).val - 3, by omega⟩ : S4x1024x32x128.Idx) fun a => ?_).trans ?_
      · match a with
        | ⟨0, _⟩ => rfl
        | ⟨1, _⟩ => rfl
        | ⟨2, _⟩ => rfl
        | ⟨3, _⟩ => rfl
      have h0 : (y 0).val < 4 := (y 0).isLt
      have h2 : (y 2).val < 1024 := (y 2).isLt
      have h3 : (y 3).val < 32 := (y 3).isLt
      refine (shapeCast_apply _ _ _ (ix2 ⟨((y 0).val * 1024 + (y 2).val) * 32 + (y 3).val, by omega⟩ ⟨(y 1).val - 3, by omega⟩ : S131072x128.Idx) ?_).trans (rows_at m d _ _ _ _ _ rfl rfl)
      rw [Shape.rowMajor_val_two, Shape.rowMajor_val_four]
      rfl

end Cert.Proof.ScI

end
-- ==== Proof.NetVal.lean ====
/-
  The selection over the extended reals: each column of 32 rows is a vector of entries (key, position), a stage is one of a
  bitonic network's stages, the sorted columns are merged by the network's merges, and the 32 rows left are the 32 first of
  all entries in the order of key and then position.
-/
module

public import proofs.«01_k».proof.Proof.NetRead
public import Idealize.ShloMosaic.Lib.SortNet.Sorts
public import Idealize.ShloMosaic.Lib.SortNet.Fold
public import Idealize.ShloMosaic.Lib.SortNet.Positions
public import Idealize.ShloMosaic.PureOps.Ideal

@[expose] public section

set_option maxRecDepth 16384

noncomputable section

namespace Cert.Proof.Net

open Idealize.ShloMosaic

/-- Entries: key, then position, the LESSER being the greater entry. -/
abbrev Ent : Type := (EReal ×ₗ ℤ)ᵒᵈ

/-- The entry of a key and a position word. -/
def ent (v : EReal) (i : BitVec 32) : Ent := OrderDual.toDual (toLex (v, i.toInt))

/-- An entry tells its key and its position. -/
theorem ent_inj {v v' : EReal} {i i' : BitVec 32} (h : ent v i = ent v' i') : v = v' ∧ i = i' := by
  have h1 : (v, i.toInt) = (v', i'.toInt) := h
  exact ⟨congrArg Prod.fst h1, BitVec.eq_of_toInt_eq (congrArg Prod.snd h1)⟩

/-- The greater entry: the lesser key, or the same key and the lesser position. -/
theorem ent_lt {v v' : EReal} {i i' : BitVec 32} : ent v' i' < ent v i ↔ v < v' ∨ (v = v' ∧ i.toInt < i'.toInt) := by
  show toLex (v, i.toInt) < toLex (v', i'.toInt) ↔ _
  rw [Prod.Lex.toLex_lt_toLex]

/-- The printed compare says which entry is greater. -/
theorem first1_eq (v v' : EReal) (i i' : BitVec 32) :
    first1 (F := Ideal) v v' i i' = BitVec.ofBool (decide (ent v' i' < ent v i)) := by
  have e : first1 (F := Ideal) v v' i i' = BitVec.ofBool (decide (v < v')) ||| (BitVec.ofBool (decide (v = v')) &&& BitVec.ofBool (i.slt i')) := rfl
  rw [e, BitVec.slt]
  by_cases h1 : v < v' <;> by_cases h2 : v = v' <;> by_cases h3 : i.toInt < i'.toInt <;>
    simp [ent_lt, h1, h2, h3]

/-- A select of key and position alike is a select of the entry. -/
theorem ent_select (c : BitVec 1) (v v' : EReal) (i i' : BitVec 32) :
    ent (Scalar.select c v v') (Scalar.select c i i') = if c = 1 then ent v i else ent v' i' := by
  unfold Scalar.select
  split <;> rfl

/-- The select under the compare keeps the greater entry, turned over the lesser. -/
theorem ent_turn1 (up : Bool) (v v' : EReal) (i i' : BitVec 32) :
    (if turn1 up (first1 (F := Ideal) v v' i i') = 1 then ent v i else ent v' i')
      = if up then max (ent v i) (ent v' i') else min (ent v i) (ent v' i') := by
  rw [first1_eq]
  by_cases h : ent v' i' < ent v i
  · have h' := h.le
    cases up
    · simp [turn1, h, IntOp.xori, min_eq_right h']
    · simp [turn1, h, max_eq_left h']
  · have h' := not_lt.1 h
    cases up
    · simp [turn1, h, IntOp.xori, min_eq_left h']
    · simp [turn1, h, max_eq_right h']

/-- The select under the turned compare keeps the lesser entry, turned over the greater. -/
theorem ent_turn1' (up : Bool) (v v' : EReal) (i i' : BitVec 32) :
    (if turn1 up (first1 (F := Ideal) v v' i i') = 1 then ent v' i' else ent v i)
      = if up then min (ent v i) (ent v' i') else max (ent v i) (ent v' i') := by
  rw [first1_eq]
  by_cases h : ent v' i' < ent v i
  · have h' := h.le
    cases up
    · simp [turn1, h, IntOp.xori, max_eq_left h']
    · simp [turn1, h, min_eq_right h']
  · have h' := not_lt.1 h
    cases up
    · simp [turn1, h, IntOp.xori, max_eq_right h']
    · simp [turn1, h, min_eq_left h']

/-- One column's entries. -/
def col {t : ℕ} (p : Pair Ideal t) (c : Fin t) (y : Fin 128) : Fin (2 ^ 5) → Ent := fun l => ent (p.v (at3 l c y)) (p.i (at3 l c y))

/-- The network's stage that a printed stage is. -/
def netStage (kj : Fin 5 × ℕ) : SortNet.Network (2 ^ 5) := SortNet.stage 5 kj.1.val fun i => decide (i.val &&& 2 ^ kj.2 = 0)

/-- A block ascends where the run's bit is clear. -/
theorem upAt_eq {k j q r : ℕ} (hkj : k < j) (hr : r < 2 ^ k) :
    upAt j (q * (2 * 2 ^ k)) = decide ((q * (2 * 2 ^ k) + r) &&& 2 ^ j = 0) := by
  rw [Bool.eq_iff_iff, decide_eq_true_iff, SortNet.and_two_pow_eq_zero_iff_testBit, Nat.testBit_eq_decide_div_mod_eq, decide_eq_false_iff_not]
  have e : (q * (2 * 2 ^ k) + r) / 2 ^ j = q * (2 * 2 ^ k) / 2 ^ j := by
    obtain ⟨m, rfl⟩ := Nat.exists_eq_add_of_lt hkj
    have e1 : 2 ^ (k + m + 1) = 2 * 2 ^ k * 2 ^ m := by
      rw [Nat.pow_succ, Nat.pow_add, Nat.mul_comm _ 2, ← Nat.mul_assoc]
    have hD : 0 < 2 * 2 ^ k := by have := Nat.two_pow_pos k; omega
    rw [e1, ← Nat.div_div_eq_div_mul _ (2 * 2 ^ k), ← Nat.div_div_eq_div_mul _ (2 * 2 ^ k), Nat.mul_div_cancel _ hD,
      Nat.mul_comm q, Nat.mul_add_div hD, Nat.div_eq_of_lt (show r < 2 * 2 ^ k by omega), Nat.add_zero]
  rw [e]
  show (q * (2 * 2 ^ k) / 2 ^ j % 2 == 0) = true ↔ _
  rw [beq_iff_eq]
  omega

/-- ONE STAGE of a column is the network's stage. -/
theorem col_stage {t : ℕ} (p : Pair Ideal t) (kj : Fin 5 × ℕ) (hkj : kj.1.val < kj.2) (c : Fin t) (y : Fin 128) :
    col (stage t p kj) c y = SortNet.Network.apply (netStage kj) (col p c y) := by
  obtain ⟨k, j⟩ := kj
  have hk : k.val < 5 := k.isLt
  funext l
  obtain ⟨q, r, a, b, hr, ha, hb, hl⟩ := row_split k l
  have e := stage_at p k j q r hr a b ha hb c y
  have hclear : a.val &&& 2 ^ k.val = 0 := by
    rw [SortNet.and_two_pow_eq_zero_iff_testBit, Nat.testBit_eq_decide_div_mod_eq, decide_eq_false_iff_not, ha,
      Nat.mul_comm 2, ← Nat.mul_assoc, Nat.mul_right_comm, Nat.mul_comm (q * 2), Nat.mul_add_div (Nat.two_pow_pos _), Nat.div_eq_of_lt hr]
    omega
  have hpart : SortNet.partner 5 k.val a = b := Fin.ext ((SortNet.partner_val_of_clear hk a hclear).trans hb.symm)
  have hup : upAt j (q * (2 * 2 ^ k.val)) = decide (a.val &&& 2 ^ j = 0) := by rw [ha]; exact upAt_eq hkj hr
  have hn := SortNet.apply_stage hk (fun i => decide (i.val &&& 2 ^ j = 0)) (col p c y) a hclear
  rw [hpart] at hn
  rcases hl with rfl | rfl
  · refine Eq.trans ?_ hn.1.symm
    show ent ((stage t p (k, j)).v _) ((stage t p (k, j)).i _) = _
    rw [e.1.1, e.1.2, ent_select]
    unfold stageCmp
    rw [ent_turn1, hup]
    rfl
  · refine Eq.trans ?_ hn.2.symm
    show ent ((stage t p (k, j)).v _) ((stage t p (k, j)).i _) = _
    rw [e.2.1, e.2.2, ent_select]
    unfold stageCmp
    rw [ent_turn1', hup]
    rfl

/-- Stages in turn. -/
theorem col_stages {t : ℕ} (c : Fin t) (y : Fin 128) (L : List (Fin 5 × ℕ)) : ∀ (p : Pair Ideal t), (∀ kj ∈ L, kj.1.val < kj.2) →
    col (L.foldl (stage t) p) c y = SortNet.Network.apply (L.flatMap netStage) (col p c y) := by
  induction L with
  | nil => exact fun _ _ => rfl
  | cons kj L ih =>
    intro p h
    rw [List.foldl_cons, ih _ fun kj' h' => h kj' (List.mem_cons_of_mem _ h'), List.flatMap_cons, SortNet.Network.apply_append,
      col_stage p kj (h kj List.mem_cons_self)]

/-- The sort's stages are the sorting network. -/
theorem sortStages_net : sortStages.flatMap netStage = SortNet.sortNet 5 true := by
  unfold SortNet.sortNet netStage
  simp only [beq_true]
  rfl

/-- The merge's stages are the merging network. -/
theorem mergeStages_net : mergeStages.flatMap netStage = SortNet.mergeDescNet 5 := by
  have e : ∀ k : Fin 5, netStage (k, 5) = SortNet.stage 5 k.val fun _ => true := fun k =>
    SortNet.stage_congr fun i _ => decide_eq_true (by
      rw [SortNet.and_two_pow_eq_zero_iff_testBit]
      exact Nat.testBit_lt_two_pow i.isLt)
  unfold SortNet.mergeDescNet mergeStages
  simp only [List.flatMap_cons, List.flatMap_nil, e]
  rfl

/-- A halving takes of each two entries the greater, the second column's in reverse. -/
theorem col_halved {t : ℕ} (p : Pair Ideal (t * 2)) (c : Fin t) (y : Fin 128) :
    col (halved t p) c y = fun l => max (col p ⟨c.val, by omega⟩ y l) (col p ⟨t + c.val, by omega⟩ y (Fin.rev l)) := by
  funext l
  have e : ∀ (v v' : EReal) (i i' : BitVec 32), ent (Scalar.select (first1 (F := Ideal) v v' i i') v v')
      (Scalar.select (first1 (F := Ideal) v v' i i') i i') = max (ent v i) (ent v' i') := fun v v' i i' =>
    (ent_select _ _ _ _ _).trans (ent_turn1 true _ _ _ _)
  refine (e (front t p.v (at3 l c y)) (back t p.v (at3 l c y)) (front t p.i (at3 l c y)) (back t p.i (at3 l c y))).trans ?_
  rw [front_at, front_at, back_at, back_at]
  rfl

/-- A descending column is its own 32 first. -/
theorem ofFn_antitone (v : Fin (2 ^ 5) → Ent) (h : Antitone v) : SortNet.topList 32 (List.ofFn v) = List.ofFn v := by
  refine SortNet.topList_eq_self ?_ (by rw [List.length_ofFn]; exact le_refl _)
  rw [List.pairwise_ofFn]
  exact fun i j hij => h hij.le

/-- The columns of a merge's halves. -/
theorem perm_range_double (L : ℕ → List Ent) (m : ℕ) :
    ((List.range m).flatMap fun c => L c ++ L (m + c)).Perm ((List.range (m + m)).flatMap L) := by
  rw [List.range_add, List.flatMap_append, List.flatMap_map]
  exact (List.flatMap_append_perm _ _ _).symm

/-- THE MERGES: columns that each descend and hold the 32 first of their entries end as one column with the 32 first of all. -/
theorem col_merged (y : Fin 128) : ∀ (m : ℕ) (p : Pair Ideal (2 ^ m)) (L : ℕ → List Ent),
    (∀ c : Fin (2 ^ m), Antitone (col p c y) ∧ List.ofFn (col p c y) = SortNet.topList 32 (L c.val)) →
    List.ofFn (col (merged m p) 0 y) = SortNet.topList 32 ((List.range (2 ^ m)).flatMap L)
  | 0, p, L, h => by
    have := (h 0).2
    rw [show (List.range (2 ^ 0)).flatMap L = L 0 by simp]
    exact this
  | m + 1, p, L, h => by
    have e2 : 2 ^ (m + 1) = 2 ^ m + 2 ^ m := by rw [Nat.pow_succ]; omega
    rw [e2, ← SortNet.topList_perm (perm_range_double L (2 ^ m))]
    refine col_merged y m _ (fun c => L c ++ L (2 ^ m + c)) fun c => ?_
    have hc := c.isLt
    obtain ⟨a1, t1⟩ := h ⟨c.val, by omega⟩
    obtain ⟨a2, t2⟩ := h ⟨2 ^ m + c.val, by omega⟩
    have hmono : Monotone fun l => col p ⟨2 ^ m + c.val, by omega⟩ y (Fin.rev l) := fun l l' hl => a2 (Fin.rev_le_rev.2 hl)
    have hs := SortNet.foldStep 5 _ _ a1 hmono
    have hcol : col (mergeStages.foldl (stage (2 ^ m)) (halved (2 ^ m) p)) c y
        = SortNet.Network.apply (SortNet.mergeDescNet 5)
            fun l => max (col p ⟨c.val, by omega⟩ y l) (col p ⟨2 ^ m + c.val, by omega⟩ y (Fin.rev l)) := by
      rw [col_stages c y mergeStages _ (by decide), mergeStages_net]
      exact congrArg _ (col_halved (t := 2 ^ m) p c y)
    rw [hcol]
    refine ⟨hs.1, hs.2.trans ?_⟩
    have hrev : (List.ofFn fun l => col p ⟨2 ^ m + c.val, by omega⟩ y (Fin.rev l)).Perm (List.ofFn (col p ⟨2 ^ m + c.val, by omega⟩ y)) :=
      Equiv.Perm.ofFn_comp_perm Fin.revPerm (col p ⟨2 ^ m + c.val, by omega⟩ y)
    show SortNet.topList 32 _ = _
    rw [SortNet.topList_perm (hrev.append_left _), t1, t2, SortNet.topList_append_topList_topList]

/-- THE SELECTION's column: the 32 first of all 8192 entries. -/
theorem col_selected (p : Pair Ideal 256) (y : Fin 128) (E : ℕ → Ent)
    (hE : ∀ (l : Fin 32) (c : Fin 256), ent (p.v (at3 l c y)) (p.i (at3 l c y)) = E (l.val * 256 + c.val)) :
    List.ofFn (col (selected p) 0 y) = SortNet.topList 32 (List.ofFn fun n : Fin 8192 => E n.val) := by
  have hsort : ∀ c : Fin 256, col (sortStages.foldl (stage 256) p) c y = SortNet.Network.apply (SortNet.sortNet 5 true) (col p c y) := fun c => by
    rw [col_stages c y sortStages p (by decide), sortStages_net]
  have hm := col_merged y 8 (sortStages.foldl (stage 256) p) (fun c => (List.range 32).map fun l => E (l * 256 + c)) fun c => by
    have hanti : Antitone (col (sortStages.foldl (stage (2 ^ 8)) p) c y) := by
      rw [show col (sortStages.foldl (stage (2 ^ 8)) p) c y = _ from hsort c]
      exact SortNet.sortNet_apply_antitone 5 _
    refine ⟨hanti, ?_⟩
    refine (ofFn_antitone _ hanti).symm.trans (SortNet.topList_perm ?_)
    rw [show col (sortStages.foldl (stage (2 ^ 8)) p) c y = _ from hsort c]
    obtain ⟨σ, hσ⟩ := SortNet.Network.exists_perm (SortNet.sortNet 5 true) (col p c y)
    rw [hσ]
    refine (Equiv.Perm.ofFn_comp_perm σ _).trans (List.Perm.of_eq ?_)
    rw [← List.map_coe_finRange_eq_range, List.map_map, List.ofFn_eq_map]
    exact List.map_congr_left fun l _ => hE l c
  refine hm.trans (SortNet.topList_perm ?_)
  have e1 : ((List.range (2 ^ 8)).flatMap fun c => (List.range 32).map fun l => E (l * 256 + c))
      = ((List.range 256).flatMap fun c => (List.range 32).map fun l => l * 256 + c).map E := by
    rw [List.map_flatMap]
    simp only [List.map_map]
    rfl
  have e2 : (List.ofFn fun n : Fin 8192 => E n.val) = (List.range 8192).map E := by
    rw [List.ofFn_eq_map, ← List.map_coe_finRange_eq_range, List.map_map]
    rfl
  rw [e1, e2]
  refine List.Perm.map E ((List.perm_ext_iff_of_nodup ?_ List.nodup_range).2 fun n => ?_)
  · rw [List.nodup_flatMap]
    refine ⟨fun c _ => List.Nodup.map (fun a b h => by have h' : a * 256 + c = b * 256 + c := h; omega) List.nodup_range, ?_⟩
    refine List.Pairwise.imp_of_mem (R := fun a b => a ≠ b) ?_ List.nodup_range
    intro a b ha hb hab
    rw [List.mem_range] at ha hb
    intro n h1 h2
    obtain ⟨l1, _, e1⟩ := List.mem_map.1 h1
    obtain ⟨l2, _, e2⟩ := List.mem_map.1 h2
    omega
  · rw [List.mem_flatMap, List.mem_range]
    constructor
    · rintro ⟨c, hc, hn⟩
      obtain ⟨l, hl, rfl⟩ := List.mem_map.1 hn
      rw [List.mem_range] at hc hl
      omega
    · intro hn
      exact ⟨n % 256, List.mem_range.2 (Nat.mod_lt _ (by omega)), List.mem_map.2 ⟨n / 256, List.mem_range.2 (by omega), by omega⟩⟩

/-- Two relations that agree where the second is earlier in the list sort it alike. -/
theorem stableSort_ordered {n : ℕ} (R R' : Fin n → Fin n → Bool) (h : ∀ a b, a < b → R b a = R' b a) :
    ∀ (l : List (Fin n)), l.Pairwise (· < ·) → stableSort R l = stableSort R' l
  | [], _ => rfl
  | a :: l, hl => by
    rw [List.pairwise_cons] at hl
    unfold stableSort
    rw [stableSort_ordered R R' h l hl.2]
    exact insertBefore_congr R R' a _ fun b hb => h a b (hl.1 b ((perm_stableSort R' l).mem_iff.mp hb))

/-- Equal sorts read alike. -/
theorem sortedFrom_of_eq {n : ℕ} (R R' : Fin n → Fin n → Bool) (h : sortPositions n R = sortPositions n R') (r : Fin n) :
    sortedFrom R r = sortedFrom R' r := by
  unfold sortedFrom
  rw [List.get_of_eq h]
  rfl

/-- A stable sort by the negated key, greater first, is the sort by entries. -/
theorem sortedFrom_entries (f : Fin 8192 → EReal) (R : Fin 8192 → Fin 8192 → Bool) (hR : ∀ a b, R a b = decide (f a < f b)) (r : Fin 8192) :
    sortedFrom R r = sortedFrom (SortNet.greaterFirst fun n => ent (f n) (BitVec.ofNat 32 n.val)) r := by
  have hp : sortPositions 8192 R = sortPositions 8192 (SortNet.greaterFirst fun n => ent (f n) (BitVec.ofNat 32 n.val)) := by
    refine stableSort_ordered _ _ (fun a b hab => ?_) _ (List.pairwise_lt_finRange 8192)
    rw [hR, SortNet.greaterFirst]
    refine decide_eq_decide.2 ?_
    rw [ent_lt]
    have hi : ∀ n : Fin 8192, (BitVec.ofNat 32 n.val).toInt = (n.val : ℤ) := fun n => by
      have := n.isLt
      rw [BitVec.toInt_eq_toNat_of_lt (by rw [BitVec.toNat_ofNat]; omega), BitVec.toNat_ofNat, Nat.mod_eq_of_lt (by omega)]
    rw [hi, hi]
    have : a.val < b.val := hab
    constructor
    · exact Or.inl
    · rintro (h | ⟨_, h⟩)
      · exact h
      · omega
  exact sortedFrom_of_eq _ _ hp r

/-- THE SELECTION IS THE SORT'S PREFIX: row `r` holds the position that a stable sort by the key puts at `r`. -/
theorem selected_sorted (p : Pair Ideal 256) (y : Fin 128) (f : Fin 8192 → EReal)
    (hv : ∀ (l : Fin 32) (c : Fin 256) (n : Fin 8192), n.val = l.val * 256 + c.val → p.v (at3 l c y) = f n)
    (hi : ∀ (l : Fin 32) (c : Fin 256), p.i (at3 l c y) = BitVec.ofNat 32 (l.val * 256 + c.val))
    (R : Fin 8192 → Fin 8192 → Bool) (hR : ∀ a b, R a b = decide (f a < f b)) (r : Fin 32) :
    (selected p).i (at3 r 0 y) = BitVec.ofNat 32 (sortedFrom R ⟨r.val, by omega⟩).val := by
  have hinj : Function.Injective fun n : Fin 8192 => ent (f n) (BitVec.ofNat 32 n.val) := fun a b h => by
    have := congrArg BitVec.toNat (ent_inj h).2
    rw [BitVec.toNat_ofNat, BitVec.toNat_ofNat] at this
    have := a.isLt
    have := b.isLt
    exact Fin.ext (by omega)
  have hsel := col_selected p y (fun n => if h : n < 8192 then ent (f ⟨n, h⟩) (BitVec.ofNat 32 n) else ent 0 0) fun l c => by
    have : l.val * 256 + c.val < 8192 := by have := l.isLt; have := c.isLt; omega
    rw [dif_pos this, hv l c ⟨_, this⟩ rfl, hi]
  have hfn : (fun n : Fin 8192 => if h : n.val < 8192 then ent (f ⟨n.val, h⟩) (BitVec.ofNat 32 n.val) else ent 0 0)
      = fun n : Fin 8192 => ent (f n) (BitVec.ofNat 32 n.val) := funext fun n => dif_pos n.isLt
  have hsel' := hsel.trans (congrArg (fun g : Fin 8192 → Ent => SortNet.topList 32 (List.ofFn g)) hfn)
  have htop := (SortNet.entry_sortedFrom_eq_topList _ hinj 32 ⟨r.val, by omega⟩ r.isLt).trans
    (congrArg (fun l : List Ent => l[r.val]?) hsel'.symm)
  rw [List.getElem?_ofFn, dif_pos (show r.val < 2 ^ 5 from r.isLt)] at htop
  have h := ent_inj (Option.some.inj htop)
  rw [sortedFrom_entries f R hR]
  exact h.2.symm

end Cert.Proof.Net

end
-- ==== Proof.Dist.lean ====
/-
  The distance that both programs rank by: the squared lengths of a point and of a centre, less twice their product, cut
  off below at zero; and the sums it is made of, read at an index.
-/
module

public import proofs.«01_k».proof.Proof.OutAt
public import Idealize.ShloMosaic.Lib.Pointwise.Reduce
public import Idealize.ShloMosaic.Lib.Pointwise.Contract
public import Idealize.ShloMosaic.Lib.IdealHost

@[expose] public section

set_option maxRecDepth 16384

noncomputable section

namespace Cert.Proof.Out

open Idealize.ShloMosaic

/-- The shape of an index of a matrix. -/
def at2 {n0 n1 : ℕ} (a : Fin n0) (b : Fin n1) : (⟨2, ![n0, n1]⟩ : Shape).Idx := fun | ⟨0, _⟩ => a | ⟨1, _⟩ => b

/-- The squared distance of point `n` to centre `g` of batch `b`, from the three sums, not below zero. -/
def distAt (pt : (⟨3, ![4, 3, 8192]⟩ : Shape).Idx → EReal) (np : (⟨3, ![4, 3, 1024]⟩ : Shape).Idx → EReal) (b : Fin 4) (g : Fin 1024) (n : Fin 8192) : EReal :=
  max ((∑ k : Fin 3, pt (at3 b k n) * pt (at3 b k n)) + (∑ k : Fin 3, np (at3 b k g) * np (at3 b k g))
    - Ideal.ofBits .f32 0x40000000#32 * ∑ k : Fin 3, pt (at3 b k n) * np (at3 b k g)) 0

/-- The host's sum over the coordinates, at a batch and a position. -/
theorem sum_coords {N : ℕ} (h : (⟨3, ![4, 3, N]⟩ : Shape).ReducesTo [1] ⟨2, ![4, N]⟩) (x : (⟨3, ![4, 3, N]⟩ : Shape).Idx → EReal) (init : EReal) (b : Fin 4) (n : Fin N) :
    Ideal.hostReduceAdd h x init (at2 b n) = init + ∑ k : Fin 3, x (at3 b k n) :=
  (Ideal.hostReduceAdd_r3_a1 h x init _).trans (congrArg (init + ·) (Finset.sum_congr rfl fun k _ => congrArg x (funext fun a => Fin.ext (by
    match a with
    | ⟨0, _⟩ => rfl
    | ⟨1, _⟩ => rfl
    | ⟨2, _⟩ => rfl))))

/-- The pattern of zero. -/
theorem ofBits_zero : (FloatOps.ofBits (F := Ideal) .f32 0x00000000#32 : EReal) = 0 := Ideal.ofBits_zero_f32

/-- The pattern of the greatest value. -/
theorem ofBits_top : (FloatOps.ofBits (F := Ideal) .f32 0x7F800000#32 : EReal) = ⊤ := by
  show Ideal.ofBits .f32 0x7F800000#32 = ⊤
  simp [Ideal.ofBits, Ideal.ieee]

end Cert.Proof.Out

end
-- ==== Proof.SelValI.lean ====
/-
  The positions that the TensorCore call selects, over the extended reals: those that a stable sort by the distance
  `Out.distAt` puts first. The blocks it reads are read at an index of the arrays, the arrays at an index of the arguments.
-/
module

public import proofs.«01_k».proof.Proof.SelI
public import proofs.«01_k».proof.Proof.NetVal
public import proofs.«01_k».proof.Proof.Dist

@[expose] public section

set_option maxRecDepth 16384

noncomputable section

namespace Cert.Proof.ScI

open Cert.KernelIdeal Cert.KernelIdeal.Gen Cert.Proof.Out

open Idealize.ShloMosaic
open Idealize.ShloMosaic.StableHlo
open Idealize.ShloMosaic.TcCoe

/-! ## The blocks at an index of the arrays -/

section Blocks

variable {F : FTy → Type} [FloatOps F]
variable (V : (c : Dev nD) → (b : Ref sig .tc) → Buf (Elt F) ((c : Thread nD τ).loc b)) (c : Dev nD)

/-- A grid step's block of the points is its batch's. -/
theorem index0_0 : ∀ t : Fin grid0.N, win0_0.index t = ![(grid0.coords t 0).val, 0, 0] := by decide +kernel
/-- A grid step's block of the centres is that of its batch and its group. -/
theorem index0_1 : ∀ t : Fin grid0.N, win0_1.index t = ![(grid0.coords t 0).val, 0, (grid0.coords t 1).val] := by decide +kernel
/-- A grid step's block of the squared lengths is its batch's. -/
theorem index0_2 : ∀ t : Fin grid0.N, win0_2.index t = ![(grid0.coords t 0).val, 0, 0] := by decide +kernel

/-- Where an element of a step's block of the points lies in the array. -/
theorem emb0 (t : Fin grid0.N) (y : S1x8192x8.Idx) :
    ((win0_0.blk t).view.emb y 0 : ℕ) = (grid0.coords t 0).val ∧ ((win0_0.blk t).view.emb y 1 : ℕ) = (y 1).val ∧ ((win0_0.blk t).view.emb y 2 : ℕ) = (y 2).val := by
  refine ⟨?_, ?_, ?_⟩ <;> blk_simp [index0_0]

/-- The block of points. -/
theorem blk_points (b : Fin 4) (q : Fin 8) (n : Fin 8192) (k : Fin 8) :
    (iblk V c 0 (pointOf b q) : S1x8192x8.Idx → F .f32) (at3 0 n k) = (V c main_v5 : S4x8192x8.Idx → F .f32) (at3 b n k) := by
  obtain ⟨h0, h1⟩ := coords_pointOf b q
  obtain ⟨e0, e1, e2⟩ := emb0 (pointOf b q) (at3 0 n k)
  refine congrArg (V c main_v5 : S4x8192x8.Idx → F .f32) (funext fun a => Fin.ext ?_)
  match a with
  | ⟨0, _⟩ => exact e0.trans h0
  | ⟨1, _⟩ => exact e1
  | ⟨2, _⟩ => exact e2

/-- Where an element of a step's block of the centres lies in the array. -/
theorem emb1 (t : Fin grid0.N) (y : S1x8x128.Idx) :
    ((win0_1.blk t).view.emb y 0 : ℕ) = (grid0.coords t 0).val ∧ ((win0_1.blk t).view.emb y 1 : ℕ) = (y 1).val ∧ ((win0_1.blk t).view.emb y 2 : ℕ) = (grid0.coords t 1).val * 128 + (y 2).val := by
  refine ⟨?_, ?_, ?_⟩ <;> blk_simp [index0_1]

/-- The block of centres. -/
theorem blk_centres (b : Fin 4) (q : Fin 8) (k : Fin 8) (y : Fin 128) :
    (iblk V c 1 (pointOf b q) : S1x8x128.Idx → F .f32) (at3 0 k y) = (V c main_v10 : S4x8x1024.Idx → F .f32) (at3 b k ⟨q.val * 128 + y.val, by omega⟩) := by
  obtain ⟨h0, h1⟩ := coords_pointOf b q
  obtain ⟨e0, e1, e2⟩ := emb1 (pointOf b q) (at3 0 k y)
  refine congrArg (V c main_v10 : S4x8x1024.Idx → F .f32) (funext fun a => Fin.ext ?_)
  match a with
  | ⟨0, _⟩ => exact e0.trans h0
  | ⟨1, _⟩ => exact e1
  | ⟨2, _⟩ => exact e2.trans (by rw [h1]; rfl)

/-- Where an element of a step's block of the squared lengths lies in the array. -/
theorem emb2 (t : Fin grid0.N) (y : S1x8192x1.Idx) :
    ((win0_2.blk t).view.emb y 0 : ℕ) = (grid0.coords t 0).val ∧ ((win0_2.blk t).view.emb y 1 : ℕ) = (y 1).val ∧ ((win0_2.blk t).view.emb y 2 : ℕ) = (y 2).val := by
  refine ⟨?_, ?_, ?_⟩ <;> blk_simp [index0_2]

/-- The block of squared lengths. -/
theorem blk_lengths (b : Fin 4) (q : Fin 8) (n : Fin 8192) :
    (iblk V c 2 (pointOf b q) : S1x8192x1.Idx → F .f32) (at3 0 n 0) = (V c main_v3 : S4x8192x1.Idx → F .f32) (at3 b n 0) := by
  obtain ⟨h0, h1⟩ := coords_pointOf b q
  obtain ⟨e0, e1, e2⟩ := emb2 (pointOf b q) (at3 0 n 0)
  refine congrArg (V c main_v3 : S4x8192x1.Idx → F .f32) (funext fun a => Fin.ext ?_)
  match a with
  | ⟨0, _⟩ => exact e0.trans h0
  | ⟨1, _⟩ => exact e1
  | ⟨2, _⟩ => exact e2

end Blocks

/-! ## The arrays at an index of the arguments -/

section Arrays

variable {F : FTy → Type} [FloatOps F] (m : (ℓ : Loc nD τ sig) → Buf (Elt F) ℓ) (d : Dev nD)

/-- The points. -/
abbrev ptA : S4x3x8192.Idx → F .f32 := m (d, Proc.devRef .tc main_arg0)
/-- The centres. -/
abbrev npA : S4x3x1024.Idx → F .f32 := m (d, Proc.devRef .tc main_arg1)

/-- The points, five columns of zeros after their three coordinates. -/
theorem VA_points : (VA m d (Proc.devRef .tc main_v5) : S4x8192x8.Idx → F .f32)
    = concatenate S4x8192x8 2 [⟨S4x8192x3, transpose S4x8192x3 [0, 2, 1] (ptA m d) transposes_S4x3x8192_S4x8192x3_0_2_1⟩,
        ⟨S4x8192x5, broadcastInDim S4x8192x5 ![] bcast_S_S4x8192x5 (constant S_ .f32 0x00000000#32)⟩] concatenates_S4x8192x3_S4x8192x5_S4x8192x8_d2 := by
  unfold VA
  after_results_simp
  rfl

/-- The points' squared lengths. -/
theorem VA_lengths : (VA m d (Proc.devRef .tc main_v3) : S4x8192x1.Idx → F .f32)
    = broadcastInDim S4x8192x1 ![0, 1] bcast_S4x8192_S4x8192x1_0_1
        (Host.reduceAdd (mulf (ptA m d) (ptA m d)) (constant S_ .f32 0x00000000#32) reducesTo_S4x3x8192_S4x8192_d1 h_S_) := by
  unfold VA
  after_results_simp
  rfl

/-- The centres, their squared length in the fourth row, four rows of zeros after it. -/
theorem VA_centres : (VA m d (Proc.devRef .tc main_v10) : S4x8x1024.Idx → F .f32)
    = concatenate S4x8x1024 1 [⟨S4x3x1024, npA m d⟩,
        ⟨S4x1x1024, broadcastInDim S4x1x1024 ![0, 2] bcast_S4x1024_S4x1x1024_0_2
          (Host.reduceAdd (mulf (npA m d) (npA m d)) (constant S_ .f32 0x00000000#32) reducesTo_S4x3x1024_S4x1024_d1 h_S_)⟩,
        ⟨S4x4x1024, broadcastInDim S4x4x1024 ![] bcast_S_S4x4x1024 (constant S_ .f32 0x00000000#32)⟩]
      concatenates_S4x3x1024_S4x1x1024_S4x4x1024_S4x8x1024_d1 := by
  unfold VA
  after_results_simp
  rfl

/-- A point's coordinate. -/
theorem points_at (b : Fin 4) (n : Fin 8192) (k : Fin 3) (k' : Fin 8) (hk : k'.val = k.val) :
    (VA m d (Proc.devRef .tc main_v5) : S4x8192x8.Idx → F .f32) (at3 b n k') = ptA m d (at3 b k n) := by
  rw [VA_points]
  refine (concatenate_pair_apply_left (t := S4x8192x8) (s₁ := S4x8192x3) (s₂ := S4x8192x5) 2 _ _ _ _ rfl (at3 b n k : S4x8192x3.Idx) fun a => ?_).trans
    (transpose_apply _ _ _ _ (at3 b k n : S4x3x8192.Idx) fun a => ?_)
  · match a with
    | ⟨0, _⟩ => rfl
    | ⟨1, _⟩ => rfl
    | ⟨2, _⟩ => exact hk.symm
  · match a with
    | ⟨0, _⟩ => rfl
    | ⟨1, _⟩ => rfl
    | ⟨2, _⟩ => rfl

/-- A column after the coordinates. -/
theorem points_pad (b : Fin 4) (n : Fin 8192) (k : Fin 5) (k' : Fin 8) (hk : k'.val = k.val + 3) :
    (VA m d (Proc.devRef .tc main_v5) : S4x8192x8.Idx → F .f32) (at3 b n k') = FloatOps.ofBits .f32 0x00000000#32 := by
  rw [VA_points]
  refine (concatenate_pair_apply_right (t := S4x8192x8) (s₁ := S4x8192x3) (s₂ := S4x8192x5) 2 _ _ _ _ rfl rfl (at3 b n k : S4x8192x5.Idx) (fun a ha => ?_) (by show k.val + 3 = k'.val; exact hk.symm)).trans rfl
  match a with
  | ⟨0, _⟩ => rfl
  | ⟨1, _⟩ => rfl
  | ⟨2, _⟩ => exact absurd rfl ha

/-- A centre's coordinate. -/
theorem centres_at (b : Fin 4) (g : Fin 1024) (k : Fin 3) (k' : Fin 8) (hk : k'.val = k.val) :
    (VA m d (Proc.devRef .tc main_v10) : S4x8x1024.Idx → F .f32) (at3 b k' g) = npA m d (at3 b k g) := by
  rw [VA_centres]
  refine concatenate_apply_piece (t := S4x8x1024) 1 _ _ _ 0 (by simp) S4x3x1024 _ rfl rfl 0 rfl (at3 b k g : S4x3x1024.Idx) (fun a ha => ?_) ?_
  · match a with
    | ⟨0, _⟩ => rfl
    | ⟨1, _⟩ => exact absurd rfl ha
    | ⟨2, _⟩ => rfl
  · show 0 + k.val = k'.val
    omega

end Arrays

/-! ## The distances -/

section Ideals

variable (m : (ℓ : Loc nD τ sig) → Buf (Elt Ideal) ℓ) (d : Dev nD)

/-- A centre's squared length. -/
theorem centres_length (b : Fin 4) (g : Fin 1024) :
    (VA m d (Proc.devRef .tc main_v10) : S4x8x1024.Idx → EReal) (at3 b 3 g) = ∑ k : Fin 3, npA m d (at3 b k g) * npA m d (at3 b k g) := by
  rw [VA_centres]
  refine (concatenate_apply_piece (t := S4x8x1024) 1 _ _ _ 1 (by simp) S4x1x1024 _ rfl rfl 3 rfl (at3 b 0 g : S4x1x1024.Idx) (fun a ha => ?_) rfl).trans
    ((broadcastInDim_apply _ _ _ _ (at2 b g : S4x1024.Idx) fun a => ?_).trans ((sum_coords _ _ _ b g).trans ((congrArg (· + _) ofBits_zero).trans (zero_add _))))
  · match a with
    | ⟨0, _⟩ => rfl
    | ⟨1, _⟩ => exact absurd rfl ha
    | ⟨2, _⟩ => rfl
  · match a with
    | ⟨0, _⟩ => rfl
    | ⟨1, _⟩ => rfl

/-- A point's squared length. -/
theorem points_length (b : Fin 4) (n : Fin 8192) :
    (VA m d (Proc.devRef .tc main_v3) : S4x8192x1.Idx → EReal) (at3 b n 0) = ∑ k : Fin 3, ptA m d (at3 b k n) * ptA m d (at3 b k n) := by
  rw [VA_lengths]
  refine (broadcastInDim_apply _ _ _ _ (at2 b n : S4x8192.Idx) fun a => ?_).trans ((sum_coords _ _ _ b n).trans ((congrArg (· + _) ofBits_zero).trans (zero_add _)))
  match a with
  | ⟨0, _⟩ => rfl
  | ⟨1, _⟩ => rfl

/-- The distances of a block, read at row `l`, column `c` and centre `y`. -/
theorem dist_at (v0 : S1x8192x8.Idx → EReal) (v2 : S1x8x128.Idx → EReal) (v4 : S1x8192x1.Idx → EReal) (l : Fin 32) (c : Fin 256) (y : Fin 128)
    (n : Fin 8192) (hn : n.val = l.val * 256 + c.val) :
    dist (F := Ideal) v0 v2 v4 (Net.at3 l c y) = max (v4 (at3 0 n 0) + v2 (at3 0 3 y)
      - Ideal.ofBits .f32 0x40000000#32 * ∑ k : Fin 8, v0 (at3 0 n k) * v2 (at3 0 k y)) 0 := by
  unfold dist
  refine (shapeCast_apply (s := S8192x128) (t := S32x256x128) _ _ _ (at2 n y : S8192x128.Idx) ?_).trans ?_
  · rw [Shape.rowMajor_val_two, Shape.rowMajor_val_three]
    show n.val * 128 + y.val = (l.val * 256 + c.val) * 128 + y.val
    omega
  refine congrArg₂ max (congrArg₂ (· - ·) (congrArg₂ (· + ·) ?_ ?_) (congrArg₂ (· * ·) rfl ?_)) ofBits_zero
  · refine (broadcastTo_apply _ _ _ (at2 n 0 : S8192x1.Idx) fun a => ?_).trans (shapeCast_apply (s := S1x8192x1) (t := S8192x1) _ _ _ (at3 0 n 0) ?_)
    · match a with
      | ⟨0, _⟩ => rfl
      | ⟨1, _⟩ => rfl
    · rw [Shape.rowMajor_val_two, Shape.rowMajor_val_three]
      show (0 * 8192 + n.val) * 1 + 0 = n.val * 1 + 0
      omega
  · refine (broadcastTo_apply _ _ _ (at2 0 y : S1x128.Idx) fun a => ?_).trans ((extractStridedSlice_apply (s := S8x128) (t := S1x128) _ _ _ _ (at2 3 y) fun a => ?_).trans
      (shapeCast_apply (s := S1x8x128) (t := S8x128) _ _ _ (at3 0 3 y) ?_))
    · match a with
      | ⟨0, _⟩ => rfl
      | ⟨1, _⟩ => rfl
    · match a with
      | ⟨0, _⟩ => rfl
      | ⟨1, _⟩ => exact (Nat.zero_add _).symm
    · rw [Shape.rowMajor_val_two, Shape.rowMajor_val_three]
      show (0 * 8 + 3) * 128 + y.val = 3 * 128 + y.val
      omega
  · refine (Ideal.matmul_apply₁_of dot_S8192x8_S8x128_S8192x128_1_0_0_1_n_n rfl (K := 8) rfl _ _ _ _ (fun k => at2 n k) (fun k => at2 k y) (fun k => ?_) (fun k => ?_)).trans
      ((congrArg (· + _) ofBits_zero).trans ((zero_add _).trans (Finset.sum_congr rfl fun k _ => congrArg₂ (· * ·)
        (shapeCast_apply (s := S1x8192x8) (t := S8192x8) _ _ _ (at3 0 n k) ?_) (shapeCast_apply (s := S1x8x128) (t := S8x128) _ _ _ (at3 0 k y) ?_))))
    · funext a
      match a with
      | ⟨0, _⟩ => rfl
      | ⟨1, _⟩ => rfl
    · funext a
      match a with
      | ⟨0, _⟩ => rfl
      | ⟨1, _⟩ => rfl
    · rw [Shape.rowMajor_val_two, Shape.rowMajor_val_three]
      show (0 * 8192 + n.val) * 8 + k.val = n.val * 8 + k.val
      omega
    · rw [Shape.rowMajor_val_two, Shape.rowMajor_val_three]
      show (0 * 8 + k.val) * 128 + y.val = k.val * 128 + y.val
      omega

/-- Zeros after the third term add nothing. -/
theorem sum_pad (u v : Fin 8 → EReal) (hz : ∀ k : Fin 8, 3 ≤ k.val → u k = 0) :
    ∑ k : Fin 8, u k * v k = ∑ k : Fin 3, u ⟨k.val, by omega⟩ * v ⟨k.val, by omega⟩ := by
  rw [Fin.sum_univ_eight, Fin.sum_univ_three, hz 3 (by decide), hz 4 (by decide), hz 5 (by decide), hz 6 (by decide), hz 7 (by decide)]
  simp only [zero_mul, add_zero]
  rfl

/-- The distance that the body ranks point `n` by for centre `128 q + y` is the distance of the two. -/
theorem dist_blk (b : Fin 4) (q : Fin 8) (l : Fin 32) (c : Fin 256) (y : Fin 128) (n : Fin 8192) (hn : n.val = l.val * 256 + c.val) :
    dist (F := Ideal) (iblk (VAr m) d 0 (pointOf b q)) (iblk (VAr m) d 1 (pointOf b q)) (iblk (VAr m) d 2 (pointOf b q)) (Net.at3 l c y)
      = distAt (ptA m d) (npA m d) b ⟨q.val * 128 + y.val, by omega⟩ n := by
  refine (dist_at _ _ _ l c y n hn).trans ?_
  unfold distAt
  refine congrArg₂ max (congrArg₂ (· - ·) (congrArg₂ (· + ·) ?_ ?_) (congrArg₂ (· * ·) rfl ?_)) rfl
  · exact (blk_lengths (VAr m) d b q n).trans (points_length m d b n)
  · exact (blk_centres (VAr m) d b q 3 y).trans (centres_length m d b _)
  · refine (sum_pad (fun k => (iblk (VAr m) d 0 (pointOf b q) : S1x8192x8.Idx → EReal) (at3 0 n k)) (fun k => (iblk (VAr m) d 1 (pointOf b q) : S1x8x128.Idx → EReal) (at3 0 k y))
      fun k hk => ?_).trans (Finset.sum_congr rfl fun k _ => congrArg₂ (· * ·) ?_ ?_)
    · exact (blk_points (VAr m) d b q n k).trans ((points_pad m d b n ⟨k.val - 3, by omega⟩ k (by show k.val = k.val - 3 + 3; omega)).trans ofBits_zero)
    · exact (blk_points (VAr m) d b q n _).trans (points_at m d b n k _ rfl)
    · exact (blk_centres (VAr m) d b q _ y).trans (centres_at m d b _ k _ rfl)

/-- THE SELECTION: the position at batch `b`, centre `g` and rank `k` is the one that a stable sort by the distance puts there. -/
theorem ixA_sorted (b : Fin 4) (g : Fin 1024) (k : Fin 32) (R : Fin 8192 → Fin 8192 → Bool)
    (hR : ∀ n n', R n n' = decide (distAt (ptA m d) (npA m d) b g n < distAt (ptA m d) (npA m d) b g n')) :
    ixA m d (at3 b g k) = BitVec.ofNat 32 (sortedFrom R ⟨k.val, by omega⟩).val := by
  unfold ixA chosen
  have hg := g.isLt
  have e : (⟨g.val / 128 * 128 + g.val % 128, by omega⟩ : Fin 1024) = g := Fin.ext (by show g.val / 128 * 128 + g.val % 128 = g.val; omega)
  refine Net.selected_sorted _ ⟨g.val % 128, Nat.mod_lt _ (by omega)⟩ (distAt (ptA m d) (npA m d) b g) (fun l c n hn => ?_) (fun l c => posn_at l c _) R hR k
  refine (dist_blk m d b ⟨g.val / 128, by omega⟩ l c ⟨g.val % 128, Nat.mod_lt _ (by omega)⟩ n hn).trans ?_
  exact congrArg (fun g => distAt (ptA m d) (npA m d) b g n) e

end Ideals

end Cert.Proof.ScI

end
-- ==== Proof.RefSelI.lean ====
/-
  The positions that the reference selects: those that a stable sort by the distance `Out.distAt` puts first.
-/
module

public import proofs.«01_k».proof.Proof.Dist
public import proofs.«01_k».proof.Proof.Gen.ReferenceIdeal

@[expose] public section

set_option maxRecDepth 16384

noncomputable section

namespace Cert.Proof.RefI

open Cert.ReferenceIdeal Cert.ReferenceIdeal.Gen Cert.Proof.Out

open Idealize.ShloMosaic

variable {F : FTy → Type} [FloatOps F]

/-- The reference's distances: batch, point, centre. -/
def sq (pt : S4x3x8192.Idx → F .f32) (np : S4x3x1024.Idx → F .f32) : S4x8192x1024.Idx → F .f32 :=
  subf (addf (broadcastInDim S4x8192x1024 ![0, 1, 2] bcast_S4x8192x1_S4x8192x1024_0_1_2 (broadcastInDim S4x8192x1 ![0, 1] bcast_S4x8192_S4x8192x1_0_1 (Host.reduceAdd (mulf pt pt) (constant S_ .f32 0x00000000#32) reducesTo_S4x3x8192_S4x8192_d1 h_S_)))
      (broadcastInDim S4x8192x1024 ![0, 1, 2] bcast_S4x1x1024_S4x8192x1024_0_1_2 (broadcastInDim S4x1x1024 ![0, 2] bcast_S4x1024_S4x1x1024_0_2 (Host.reduceAdd (mulf np np) (constant S_ .f32 0x00000000#32) reducesTo_S4x3x1024_S4x1024_d1 h_S_))))
    (mulf (broadcastInDim S4x8192x1024 ![] bcast_S_S4x8192x1024 (constant S_ .f32 0x40000000#32)) (Host.dotGeneral dot_S4x3x8192_S4x3x1024_S4x8192x1024_1_1_2_2_0_0 none pt np))

/-- The same, what is no number replaced by zero, cut off below at zero. -/
def cut (pt : S4x3x8192.Idx → F .f32) (np : S4x3x1024.Idx → F .f32) : S4x8192x1024.Idx → F .f32 :=
  minimumf (broadcastInDim S4x8192x1024 ![] bcast_S_S4x8192x1024 (id (constant S_ .f32 0x7F800000#32)))
    (maximumf (broadcastInDim S4x8192x1024 ![] bcast_S_S4x8192x1024 (id (constant S_ .f32 0x00000000#32)))
      (select (cmpf .une (sq pt np) (sq pt np)) (broadcastInDim S4x8192x1024 ![] bcast_S_S4x8192x1024 (id (constant S_ .f32 0x00000000#32))) (sq pt np)))

/-- The keys that the reference selects by: batch, centre, point. -/
def keys (pt : S4x3x8192.Idx → F .f32) (np : S4x3x1024.Idx → F .f32) : S4x1024x8192.Idx → F .f32 :=
  Host.negf (transpose S4x1024x8192 [0, 2, 1] (cut pt np) transposes_S4x8192x1024_S4x1024x8192_0_2_1)

/-- The positions that the reference selects. -/
def nearest (pt : S4x3x8192.Idx → F .f32) (np : S4x3x1024.Idx → F .f32) : IVec S4x1024x32 32 :=
  (Host.topK S4x1024x32 2 (FloatOps.cmpfTotal .gt) (keys pt np) sliceFits_S4x1024x8192_S4x1024x32).2

/-- A selected position, at a batch, centre and rank: the one that the stable sort by the keys, greater first, puts there. -/
theorem nearest_at (pt : S4x3x8192.Idx → F .f32) (np : S4x3x1024.Idx → F .f32) (b : Fin 4) (g : Fin 1024) (k : Fin 32) :
    nearest pt np (at3 b g k) = BitVec.ofNat 32 (sortedFrom (fun n n' : Fin 8192 =>
      FloatOps.cmpfTotal .gt (keys pt np (at3 b g n)) (keys pt np (at3 b g n')) == 1#1) ⟨k.val, by omega⟩).val := by
  have hal : ∀ (e n : Fin 8192), (at3 b g e : S4x1024x8192.Idx).along (2 : Fin 3) n = at3 b g n := fun e n => by
    funext a
    match a with
    | ⟨0, _⟩ => rfl
    | ⟨1, _⟩ => rfl
    | ⟨2, _⟩ => rfl
  have hk := k.isLt
  show extractStridedSlice S4x1024x32 (fun _ => 0) (Host.sort2 S4x1024x8192 2 (fun l r => FloatOps.cmpfTotal .gt l.1 r.1) (keys pt np)
    (fun i => if hd : 2 < S4x1024x8192.rank then iotaInDim S4x1024x8192 32 ⟨2, hd⟩ i else 0#32)).2 sliceFits_S4x1024x8192_S4x1024x32 (at3 b g k) = _
  refine (extractStridedSlice_apply (s := S4x1024x8192) (t := S4x1024x32) _ _ _ _ (at3 b g ⟨k.val, by omega⟩) (fun a => ?_)).trans ?_
  · match a with
    | ⟨0, _⟩ => exact (Nat.zero_add _).symm
    | ⟨1, _⟩ => exact (Nat.zero_add _).symm
    | ⟨2, _⟩ => exact (Nat.zero_add _).symm
  unfold Host.sort2
  rw [dif_pos (show 2 < S4x1024x8192.rank by decide)]
  have hcmp : (fun n n' : Fin 8192 => FloatOps.cmpfTotal .gt (keys pt np ((at3 b g ⟨k.val, by omega⟩ : S4x1024x8192.Idx).along (2 : Fin 3) n))
      (keys pt np ((at3 b g ⟨k.val, by omega⟩ : S4x1024x8192.Idx).along (2 : Fin 3) n')) == 1#1)
    = fun n n' : Fin 8192 => FloatOps.cmpfTotal .gt (keys pt np (at3 b g n)) (keys pt np (at3 b g n')) == 1#1 := by
    funext n n'
    rw [hal, hal]
  refine Eq.trans ?_ (congrArg (fun R : Fin 8192 → Fin 8192 → Bool => BitVec.ofNat 32 (sortedFrom R ⟨k.val, by omega⟩).val) hcmp)
  show (if hd : 2 < S4x1024x8192.rank then iotaInDim S4x1024x8192 32 ⟨2, hd⟩ _ else 0#32) = _
  rw [dif_pos (show 2 < S4x1024x8192.rank by decide)]
  unfold iotaInDim Shape.Idx.along
  refine congrArg (fun n : Fin 8192 => BitVec.ofNat 32 n.val) ?_
  exact Function.update_self _ _ _

/-- So it is one of the 8192. -/
theorem nearest_lt (pt : S4x3x8192.Idx → F .f32) (np : S4x3x1024.Idx → F .f32) (j : S4x1024x32.Idx) : (nearest pt np j).toNat < 8192 := by
  refine (congrArg (fun w : BitVec 32 => w.toNat) ((congrArg (nearest pt np) (at3_eta j).symm).trans (nearest_at pt np (j 0) (j 1) (j 2)))).trans_lt ?_
  show (BitVec.ofNat 32 _).toNat < 8192
  rw [BitVec.toNat_ofNat]
  have := (sortedFrom (fun n n' : Fin 8192 =>
      FloatOps.cmpfTotal .gt (keys pt np (at3 (j 0) (j 1) n)) (keys pt np (at3 (j 0) (j 1) n')) == 1#1) ⟨(j 2).val, by have : (j 2).val < 32 := (j 2).isLt; omega⟩).isLt
  omega

/-! ## The keys over the extended reals -/

/-- Nothing differs from itself. -/
theorem une_self (x : EReal) : FloatOps.cmpf (F := Ideal) (φ := .f32) .une x x = 0#1 := by
  show BitVec.ofBool (decide (x ≠ x)) = 0#1
  simp

/-- The reference's product of points and centres, at an index. -/
theorem dot_at (pt : S4x3x8192.Idx → EReal) (np : S4x3x1024.Idx → EReal) (b : Fin 4) (g : Fin 1024) (n : Fin 8192) :
    Ideal.matmul dot_S4x3x8192_S4x3x1024_S4x8192x1024_1_1_2_2_0_0 pt np (fun _ => 0) (at3 b n g : S4x8192x1024.Idx)
      = ∑ k : Fin 3, pt (at3 b k n) * np (at3 b k g) := by
  rw [Ideal.matmul_apply₁_of dot_S4x3x8192_S4x3x1024_S4x8192x1024_1_1_2_2_0_0 rfl (K := 3) rfl pt np _ _ (fun k => at3 b k n) (fun k => at3 b k g)
    (fun k => by
      funext a
      match a with
      | ⟨0, _⟩ => rfl
      | ⟨1, _⟩ => rfl
      | ⟨2, _⟩ => rfl)
    (fun k => by
      funext a
      match a with
      | ⟨0, _⟩ => rfl
      | ⟨1, _⟩ => rfl
      | ⟨2, _⟩ => rfl)]
  exact zero_add _

/-- The reference's distance, at an index. -/
theorem sq_at (pt : S4x3x8192.Idx → EReal) (np : S4x3x1024.Idx → EReal) (b : Fin 4) (g : Fin 1024) (n : Fin 8192) :
    sq (F := Ideal) pt np (at3 b n g : S4x8192x1024.Idx) = (∑ k : Fin 3, pt (at3 b k n) * pt (at3 b k n)) + (∑ k : Fin 3, np (at3 b k g) * np (at3 b k g))
      - Ideal.ofBits .f32 0x40000000#32 * ∑ k : Fin 3, pt (at3 b k n) * np (at3 b k g) := by
  unfold sq
  refine congrArg₂ (· - ·) (congrArg₂ (· + ·) ?_ ?_) (congrArg₂ (· * ·) rfl (dot_at pt np b g n))
  · refine (broadcastInDim_apply _ _ _ _ (at3 b n 0 : S4x8192x1.Idx) fun a => ?_).trans ((broadcastInDim_apply _ _ _ _ (at2 b n : S4x8192.Idx) fun a => ?_).trans
      ((sum_coords _ _ _ b n).trans ((congrArg (· + _) ofBits_zero).trans (zero_add _))))
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (at3 b 0 g : S4x1x1024.Idx) fun a => ?_).trans ((broadcastInDim_apply _ _ _ _ (at2 b g : S4x1024.Idx) fun a => ?_).trans
      ((sum_coords _ _ _ b g).trans ((congrArg (· + _) ofBits_zero).trans (zero_add _))))
    · match a with
      | ⟨0, _⟩ => rfl
      | ⟨1, _⟩ => rfl
      | ⟨2, _⟩ => rfl
    · match a with
      | ⟨0, _⟩ => rfl
      | ⟨1, _⟩ => rfl

/-- The reference's key: the distance, negated. -/
theorem keys_at (pt : S4x3x8192.Idx → EReal) (np : S4x3x1024.Idx → EReal) (b : Fin 4) (g : Fin 1024) (n : Fin 8192) :
    keys (F := Ideal) pt np (at3 b g n : S4x1024x8192.Idx) = -distAt pt np b g n := by
  unfold keys
  refine congrArg (fun x : EReal => -x) ((transpose_apply _ _ _ _ (at3 b n g : S4x8192x1024.Idx) fun a => ?_).trans ?_)
  · match a with
    | ⟨0, _⟩ => rfl
    | ⟨1, _⟩ => rfl
    | ⟨2, _⟩ => rfl
  unfold cut
  show min (FloatOps.ofBits (F := Ideal) .f32 0x7F800000#32 : EReal) (max (FloatOps.ofBits (F := Ideal) .f32 0x00000000#32 : EReal)
    (Scalar.select (FloatOps.cmpf (F := Ideal) (φ := .f32) .une (sq (F := Ideal) pt np (at3 b n g)) (sq (F := Ideal) pt np (at3 b n g))) _ (sq (F := Ideal) pt np (at3 b n g)))) = _
  rw [une_self, ofBits_zero, ofBits_top, top_inf_eq, max_comm]
  exact congrArg (fun x : EReal => max x 0) (sq_at pt np b g n)

/-- One key is greater than another where its distance is the smaller one. -/
theorem keys_gt (pt : S4x3x8192.Idx → EReal) (np : S4x3x1024.Idx → EReal) (b : Fin 4) (g : Fin 1024) (n n' : Fin 8192) :
    (FloatOps.cmpfTotal (F := Ideal) (φ := .f32) .gt (keys (F := Ideal) pt np (at3 b g n)) (keys (F := Ideal) pt np (at3 b g n')) == 1#1)
      = decide (distAt pt np b g n < distAt pt np b g n') := by
  rw [keys_at, keys_at]
  show (BitVec.ofBool (decide (-distAt pt np b g n' < -distAt pt np b g n)) == 1#1) = _
  rw [decide_eq_decide.2 EReal.neg_lt_neg_iff]
  cases decide (distAt pt np b g n < distAt pt np b g n') <;> rfl

end Cert.Proof.RefI

end
-- ==== Proof.RefValI.lean ====
/-
  The reference's result, element by element: the grouping `Out.outAt` at the positions that the reference selects.
-/
module

public import proofs.«01_k».proof.Proof.RefSelI
public import proofs.«01_k».proof.Proof.Gen.ReferenceIdeal.Run

@[expose] public section

set_option maxRecDepth 16384

noncomputable section

namespace Cert.Proof.RefI

open Cert.ReferenceIdeal Cert.ReferenceIdeal.Gen Cert.ReferenceIdeal.Value Cert.Proof.Out

open Idealize.ShloMosaic

variable {F : FTy → Type} [FloatOps F]

/-- The index words as the reference normalizes them: negative ones counted from the end. -/
abbrev words (i : IVec S4x1024x32 32) : IVec S4x1024x32x1 32 :=
  shapeCast _ (select (cmpi .slt (broadcastInDim S4x1x1024x32 ![0, 2, 3] bcast_S4x1024x32_S4x1x1024x32_0_2_3 i) (broadcastInDim S4x1x1024x32 ![] bcast_S_S4x1x1024x32 (constantI S_ 32 0#32)))
    (addi (broadcastInDim S4x1x1024x32 ![0, 2, 3] bcast_S4x1024x32_S4x1x1024x32_0_2_3 i) (broadcastInDim S4x1x1024x32 ![] bcast_S_S4x1x1024x32 (constantI S_ 32 8192#32)))
    (broadcastInDim S4x1x1024x32 ![0, 2, 3] bcast_S4x1024x32_S4x1x1024x32_0_2_3 i)) shapeCasts_S4x1x1024x32_S4x1024x32x1

/-- The reference's mask: the normalized words that lie in range. -/
def mask (i : IVec S4x1024x32 32) : IVec S4x1024x32 1 :=
  Host.reduce IntOp.andi (andi (cmpi .sge (words i) (broadcastInDim S4x1024x32x1 ![] bcast_S_S4x1024x32x1 (constantI S_ 32 0#32)))
    (cmpi .sle (words i) (broadcastInDim S4x1024x32x1 ![0, 1, 2, 3] bcast_S1x1x1x1_S4x1024x32x1_0_1_2_3 (broadcastInDim S1x1x1x1 ![3] bcast_S1_S1x1x1x1_3 (constantI S1 32 8191#32)))))
    (constantI S_ 1 1#1) reducesTo_S4x1024x32x1_S4x1024x32_d3 h_S_

/-- The reference's taking of points. -/
def takeP (x : S4x3x8192.Idx → F .f32) (i : IVec S4x1024x32 32) : S4x3x1024x32.Idx → F .f32 :=
  select (broadcastInDim S4x3x1024x32 ![0, 2, 3] bcast_S4x1024x32_S4x3x1024x32_0_2_3 (mask i))
    (Host.gather gather_S4x3x8192_S4x1024x32x1_S4x3x1024x32_1_2_0_0_2_3_131
      (shapeCast _ (broadcastInDim S4x3x1x8192 ![0, 1, 3] bcast_S4x3x8192_S4x3x1x8192_0_1_3 x) shapeCasts_S4x3x1x8192_S4x3x8192) (words i))
    (broadcastInDim S4x3x1024x32 ![] bcast_S_S4x3x1024x32 (constant S_ .f32 0x7FC00000#32))

/-- The reference's taking of features. -/
def takeF (x : S4x128x8192.Idx → F .f32) (i : IVec S4x1024x32 32) : S4x128x1024x32.Idx → F .f32 :=
  select (broadcastInDim S4x128x1024x32 ![0, 2, 3] bcast_S4x1024x32_S4x128x1024x32_0_2_3 (mask i))
    (Host.gather gather_S4x128x8192_S4x1024x32x1_S4x128x1024x32_1_2_0_0_2_3_11281
      (shapeCast _ (broadcastInDim S4x128x1x8192 ![0, 1, 3] bcast_S4x128x8192_S4x128x1x8192_0_1_3 x) shapeCasts_S4x128x1x8192_S4x128x8192) (words i))
    (broadcastInDim S4x128x1024x32 ![] bcast_S_S4x128x1024x32 (constant S_ .f32 0x7FC00000#32))

/-- The centres spread over the members of their group. -/
def spread (x : S4x3x1024.Idx → F .f32) : S4x3x1024x32.Idx → F .f32 :=
  broadcastInDim S4x3x1024x32 ![0, 1, 2, 3] bcast_S4x3x1024x1_S4x3x1024x32_0_1_2_3 (broadcastInDim S4x3x1024x1 ![0, 1, 2] bcast_S4x3x1024_S4x3x1024x1_0_1_2 x)

/-- The reference's result, of the three. -/
theorem res_split (m : (ℓ : Loc nD τ sig) → Buf (Elt F) ℓ) (c : Dev nD) :
    res_main_v27 m c = concatenate S4x131x1024x32 1
      [⟨S4x3x1024x32, subf (takeP (F := F) (m ((c.tc : Thread nD τ).loc main_arg0)) (nearest (F := F) (m ((c.tc : Thread nD τ).loc main_arg0)) (m ((c.tc : Thread nD τ).loc main_arg1)))) (spread (m ((c.tc : Thread nD τ).loc main_arg1)))⟩,
        ⟨S4x128x1024x32, takeF (F := F) (m ((c.tc : Thread nD τ).loc main_arg2)) (nearest (F := F) (m ((c.tc : Thread nD τ).loc main_arg0)) (m ((c.tc : Thread nD τ).loc main_arg1)))⟩]
      concatenates_S4x3x1024x32_S4x128x1024x32_S4x131x1024x32_d1 := rfl

variable (i : IVec S4x1024x32 32) (hi : ∀ j, (i j).toNat < 8192)
include hi

/-- Words below 8192 are their own normal form. -/
theorem words_apply (a : Fin 4) (b : Fin 1024) (c : Fin 32) (e : Fin 1) : words i (at4 a b c e) = i (at3 a b c) := by
  have hb : broadcastInDim S4x1x1024x32 ![0, 2, 3] bcast_S4x1024x32_S4x1x1024x32_0_2_3 i (at4 a 0 b c) = i (at3 a b c) :=
    broadcastInDim_apply _ _ _ _ (at3 a b c) fun x => by
      match x with
      | ⟨0, _⟩ => rfl
      | ⟨1, _⟩ => rfl
      | ⟨2, _⟩ => rfl
  refine Eq.trans (shapeCast_apply _ _ _ (at4 a 0 b c) ?_) ?_
  · rw [Shape.rowMajor_val_four, Shape.rowMajor_val_four]
    show (((a.val * 1 + 0) * 1024 + b.val) * 32 + c.val) = (((a.val * 1024 + b.val) * 32 + c.val) * 1 + e.val)
    omega
  · show Scalar.select (IntOp.cmpi .slt (broadcastInDim S4x1x1024x32 ![0, 2, 3] bcast_S4x1024x32_S4x1x1024x32_0_2_3 i (at4 a 0 b c)) 0#32) _
      (broadcastInDim S4x1x1024x32 ![0, 2, 3] bcast_S4x1024x32_S4x1x1024x32_0_2_3 i (at4 a 0 b c)) = _
    rw [hb, cmpi_slt_zero (hi _)]
    rfl

/-- A rank-4 index is the one with its coordinates. -/
theorem at4_eta {n0 n1 n2 n3 : ℕ} (y : (⟨4, ![n0, n1, n2, n3]⟩ : Shape).Idx) : at4 (y 0) (y 1) (y 2) (y 3) = y := by
  funext a
  match a with
  | ⟨0, _⟩ => rfl
  | ⟨1, _⟩ => rfl
  | ⟨2, _⟩ => rfl
  | ⟨3, _⟩ => rfl

/-- Every word below 8192 is in range. -/
theorem mask_apply (j : S4x1024x32.Idx) : mask i j = 1#1 := by
  unfold mask
  refine reduce_ones _ _ _ _ (fun y => ?_) (fun _ => rfl) j
  show IntOp.andi (IntOp.cmpi .sge (words i y) 0#32) (IntOp.cmpi .sle (words i y) 8191#32) = 1#1
  have e : words i y = i (at3 (y 0) (y 1) (y 2)) := (congrArg (words i) (at4_eta i hi y).symm).trans (words_apply i hi (y 0) (y 1) (y 2) (y 3))
  rw [e, cmpi_sge_zero (hi _), cmpi_sle_last (hi _)]
  rfl

omit hi in
/-- Where the bit is one, a select takes its first operand. -/
theorem select_one {α : Type} {s : Shape} (b : IVec s 1) (x z : s.Idx → α) (y : s.Idx) (h : b y = 1#1) : select b x z y = x y := by
  show Scalar.select (b y) (x y) (z y) = x y
  rw [h]; rfl

/-- The reference's taking of points, at an index. -/
theorem take3 (x : S4x3x8192.Idx → F .f32) (y : S4x3x1024x32.Idx) : takeP x i y = x (at3 (y 0) (y 1) (pick (i (at3 (y 0) (y 2) (y 3))))) := by
  unfold takeP
  refine (select_one _ _ _ _ (by unfold broadcastInDim; exact mask_apply i hi _)).trans ?_
  show Host.gather (alongDims 3 gather_S4x3x8192_S4x1024x32x1_S4x3x1024x32_1_2_0_0_2_3_131_wf) _ _ y = _
  rw [gather_along]
  have e : min (words i (at4 (y 0) (y 2) (y 3) 0)).toInt.toNat 8191 = (i (at3 (y 0) (y 2) (y 3))).toNat % 8192 :=
    (congrArg (fun w : BitVec 32 => min w.toInt.toNat 8191) (words_apply i hi (y 0) (y 2) (y 3) 0)).trans (clamp_self (hi _))
  refine (shapeCast_apply _ _ _ (at4 (y 0) (y 1) 0 (pick (i (at3 (y 0) (y 2) (y 3))))) ?_).trans (broadcastInDim_apply _ _ _ _ _ fun b => ?_)
  · rw [Shape.rowMajor_val_four, Shape.rowMajor_val_three]
    show ((((y 0).val * 3 + (y 1).val) * 1 + 0) * 8192 + (i (at3 (y 0) (y 2) (y 3))).toNat % 8192)
      = ((y 0).val * 3 + (y 1).val) * 8192 + min (words i (at4 (y 0) (y 2) (y 3) 0)).toInt.toNat 8191
    omega
  · match b with
    | ⟨0, _⟩ => rfl
    | ⟨1, _⟩ => rfl
    | ⟨2, _⟩ => rfl

/-- The reference's taking of features, at an index. -/
theorem take128 (x : S4x128x8192.Idx → F .f32) (y : S4x128x1024x32.Idx) : takeF x i y = x (at3 (y 0) (y 1) (pick (i (at3 (y 0) (y 2) (y 3))))) := by
  unfold takeF
  refine (select_one _ _ _ _ (by unfold broadcastInDim; exact mask_apply i hi _)).trans ?_
  show Host.gather (alongDims 128 gather_S4x128x8192_S4x1024x32x1_S4x128x1024x32_1_2_0_0_2_3_11281_wf) _ _ y = _
  rw [gather_along]
  have e : min (words i (at4 (y 0) (y 2) (y 3) 0)).toInt.toNat 8191 = (i (at3 (y 0) (y 2) (y 3))).toNat % 8192 :=
    (congrArg (fun w : BitVec 32 => min w.toInt.toNat 8191) (words_apply i hi (y 0) (y 2) (y 3) 0)).trans (clamp_self (hi _))
  refine (shapeCast_apply _ _ _ (at4 (y 0) (y 1) 0 (pick (i (at3 (y 0) (y 2) (y 3))))) ?_).trans (broadcastInDim_apply _ _ _ _ _ fun b => ?_)
  · rw [Shape.rowMajor_val_four, Shape.rowMajor_val_three]
    show ((((y 0).val * 128 + (y 1).val) * 1 + 0) * 8192 + (i (at3 (y 0) (y 2) (y 3))).toNat % 8192)
      = ((y 0).val * 128 + (y 1).val) * 8192 + min (words i (at4 (y 0) (y 2) (y 3) 0)).toInt.toNat 8191
    omega
  · match b with
    | ⟨0, _⟩ => rfl
    | ⟨1, _⟩ => rfl
    | ⟨2, _⟩ => rfl

omit hi in
/-- The centres spread over the members of their group, at an index. -/
theorem centres (x : S4x3x1024.Idx → F .f32) (y : S4x3x1024x32.Idx) :
    spread x y
      = x (at3 (y 0) (y 1) (y 2)) := by
  refine (broadcastInDim_apply _ _ _ _ (at4 (y 0) (y 1) (y 2) 0) fun b => ?_).trans (broadcastInDim_apply _ _ _ _ _ fun b => ?_)
  · match b with
    | ⟨0, _⟩ => rfl
    | ⟨1, _⟩ => rfl
    | ⟨2, _⟩ => rfl
    | ⟨3, _⟩ => rfl
  · match b with
    | ⟨0, _⟩ => rfl
    | ⟨1, _⟩ => rfl
    | ⟨2, _⟩ => rfl

omit hi in
/-- The two groups of channels, one after the other: the reference's result is the grouping. -/
theorem res_eq (m : (ℓ : Loc nD τ sig) → Buf (Elt F) ℓ) (c : Dev nD) :
    res_main_v27 m c = outAt (F := F) (m ((c.tc : Thread nD τ).loc main_arg0)) (m ((c.tc : Thread nD τ).loc main_arg1)) (m ((c.tc : Thread nD τ).loc main_arg2))
      (nearest (F := F) (m ((c.tc : Thread nD τ).loc main_arg0)) (m ((c.tc : Thread nD τ).loc main_arg1))) := by
  funext (y : S4x131x1024x32.Idx)
  rw [res_split]; unfold outAt
  by_cases h : (y 1).val < 3
  · rw [dif_pos h]
    refine (concatenate_pair_apply_left (t := S4x131x1024x32) (s₁ := S4x3x1024x32) (s₂ := S4x128x1024x32) 1 _ _ _ _ rfl (at4 (y 0) ⟨(y 1).val, h⟩ (y 2) (y 3) : S4x3x1024x32.Idx) fun b => ?_).trans ?_
    · match b with
      | ⟨0, _⟩ => rfl
      | ⟨1, _⟩ => rfl
      | ⟨2, _⟩ => rfl
      | ⟨3, _⟩ => rfl
    · exact congrArg₂ FloatOps.subf (take3 _ (nearest_lt _ _) _ _) (centres _ _)
  · rw [dif_neg h]
    have h1 : (y 1).val < 131 := (y 1).isLt
    refine (concatenate_pair_apply_right (t := S4x131x1024x32) (s₁ := S4x3x1024x32) (s₂ := S4x128x1024x32) 1 _ _ _ _ rfl rfl (at4 (y 0) ⟨(y 1).val - 3, by omega⟩ (y 2) (y 3) : S4x128x1024x32.Idx) (fun b hb => ?_) ?_).trans ?_
    · match b with
      | ⟨0, _⟩ => rfl
      | ⟨1, _⟩ => exact absurd rfl hb
      | ⟨2, _⟩ => rfl
      | ⟨3, _⟩ => rfl
    · show (y 1).val - 3 + 3 = (y 1).val
      omega
    · exact take128 _ (nearest_lt _ _) _ _

end Cert.Proof.RefI

end
-- ==== Proof.lean ====
/-
  The certificate: the whole kernel, from points, centres and features. The program's run is Proof/ScMainI.lean (`run_main`)
  at the idealized program and Proof/ScMainB.lean at the program as printed, that its index words are in range
  Proof/SelI.lean and Proof/SelB.lean (`inBatch`); the value of its result is Proof/ScValI.lean (`V3_val`), that of the
  reference's Proof/RefValI.lean (`res_eq`): both are `Out.outAt` at the positions selected, and both select those that a
  stable sort by the distance `Out.distAt` puts first (Proof/SelValI.lean, `ixA_sorted`; Proof/RefSelI.lean, `nearest_at`).
-/
module

public import proofs.«01_k».proof.Defs
public import proofs.«01_k».proof.Proof.ScValI
public import proofs.«01_k».proof.Proof.SelValI
public import proofs.«01_k».proof.Proof.SelB
public import proofs.«01_k».proof.Proof.RefValI
public import proofs.«01_k».proof.Proof.Gen.Kernel
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof

open Idealize.ShloMosaic Idealize.SL.Sem
open Cert.Proof.Out

/-- The program as printed runs to its end, its arguments unchanged, its counters at zero. -/
theorem frame_b : Cert.quiescent_Kernel := fun m ρ _ =>
  (θ_run Cert.Kernel.defs _ _).mono (fun _ h => ⟨fun c =>
      ⟨(h.1 c Cert.Kernel.main_arg0 (by decide)).trans (ScB.V3_arg0 m c), (h.1 c Cert.Kernel.main_arg1 (by decide)).trans (ScB.V3_arg1 m c),
        (h.1 c Cert.Kernel.main_arg2 (by decide)).trans (ScB.V3_arg2 m c)⟩, h.2⟩)
    (ScB.run_main (F := Bits) m ρ (ScB.inBatch m))

/-- So does the idealized program. -/
theorem frame_i : Cert.quiescent_KernelIdeal := fun m ρ _ =>
  (θ_run Cert.KernelIdeal.defs _ _).mono (fun _ h => ⟨fun c =>
      ⟨(h.1 c Cert.KernelIdeal.main_arg0 (by decide)).trans (ScI.V3_arg0 m c), (h.1 c Cert.KernelIdeal.main_arg1 (by decide)).trans (ScI.V3_arg1 m c),
        (h.1 c Cert.KernelIdeal.main_arg2 (by decide)).trans (ScI.V3_arg2 m c)⟩, h.2⟩)
    (ScI.run_main (F := Ideal) m ρ (ScI.inBatch m))

/-- So does the reference. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealized program selects the positions that the reference selects. -/
theorem same_positions (m : (ℓ : Loc Cert.KernelIdeal.nD Cert.KernelIdeal.τ Cert.KernelIdeal.sig) → Buf (Elt Ideal) ℓ) (c : Dev Cert.KernelIdeal.nD) :
    ScI.ixA m c = RefI.nearest (F := Ideal) (ScI.ptA m c) (ScI.npA m c) := by
  funext j
  refine (congrArg (ScI.ixA m c) (at3_eta j).symm).trans (Eq.trans ?_ (congrArg (RefI.nearest (F := Ideal) (ScI.ptA m c) (ScI.npA m c)) (at3_eta j)))
  exact (ScI.ixA_sorted m c (j 0) (j 1) (j 2) _ (RefI.keys_gt (ScI.ptA m c) (ScI.npA m c) (j 0) (j 1))).trans
    (RefI.nearest_at (F := Ideal) (ScI.ptA m c) (ScI.npA m c) (j 0) (j 1) (j 2)).symm

/-- The idealized program and the reference compute the same result: the grouping. -/
theorem algebraic : Cert.algebraic_KernelIdeal_ReferenceIdeal := by
  intro m ρ m' ρ' _ hagree
  refine ⟨fun c => ScI.V3 m c (Proc.devRef .tc Cert.KernelIdeal.main_v23), ?_, ?_⟩
  · exact (θ_run Cert.KernelIdeal.defs _ _).mono (fun _ h c =>
      ⟨h.1 c Cert.KernelIdeal.main_v23 (by decide),
        (h.1 c Cert.KernelIdeal.main_arg0 (by decide)).trans (ScI.V3_arg0 m c), (h.1 c Cert.KernelIdeal.main_arg1 (by decide)).trans (ScI.V3_arg1 m c),
        (h.1 c Cert.KernelIdeal.main_arg2 (by decide)).trans (ScI.V3_arg2 m c)⟩)
      (ScI.run_main (F := Ideal) m ρ (ScI.inBatch m))
  · refine (θ_run Cert.ReferenceIdeal.defs _ _).mono (fun _ h c => ⟨(h c).1.trans ?_, (h c).2⟩) (Cert.ReferenceIdeal.Value.run (F := Ideal) m' ρ')
    obtain ⟨h0, h1, h2⟩ := hagree c
    rw [RefI.res_eq m' c, h0, h1, h2]
    exact ((ScI.V3_val m c).trans (congrArg (outAt (F := Ideal) (m (c, Proc.devRef .tc Cert.KernelIdeal.main_arg0)) (m (c, Proc.devRef .tc Cert.KernelIdeal.main_arg1))
      (m (c, Proc.devRef .tc Cert.KernelIdeal.main_arg2))) (same_positions m c))).symm

/-- The certificate: every claim of the test, from the facts about the three printed programs. -/
theorem claim : Cert.Claim :=
  ⟨Cert.Kernel.Gen.facts, Cert.KernelIdeal.Gen.facts, Cert.ReferenceIdeal.Gen.facts,
    frame_b, frame_i, frame_r, trivial, algebraic⟩

end Cert.Proof

end
